-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 2048]⟩ ⟨3, ![2, 2048, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S8x64x2048 : Shape := ⟨3, ![8, 64, 2048]⟩
abbrev S2x8 : Shape := ⟨2, ![2, 8]⟩
abbrev S5x8 : Shape := ⟨2, ![5, 8]⟩
abbrev S1x1 : Shape := ⟨2, ![1, 1]⟩
abbrev S_ : Shape := ⟨0, ![]⟩
abbrev S64x2048 : Shape := ⟨2, ![64, 2048]⟩
abbrev S1x64x2048 : Shape := ⟨3, ![1, 64, 2048]⟩
abbrev S64 : Shape := ⟨1, ![64]⟩
abbrev S64x1 : Shape := ⟨2, ![64, 1]⟩
abbrev S32x2048 : Shape := ⟨2, ![32, 2048]⟩

abbrev nBuf : Space → Nat
  | .hbm => 5
  | .vmem => 6
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S2048x2048, .bf16⟩
  | .local _ .vmem, ⟨0, _⟩ => ⟨S1x2048, .f32⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S8x64x2048, .bf16⟩
  | .local _ .vmem, ⟨5, _⟩ => ⟨S8x64x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  (ofTc nBuf bufTy 1 98 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 3 → Nat :=
  let c0_i32_11 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let v20 : BitVec 32 := Scalar.addi v11 c0_i32
  let c0_i32_16 : BitVec 32 := 0#32
  ![0, v20.toNat, 0]
def k0_off2 (d0 : Dev nD) (c0_i32_17 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let v26 : BitVec 32 := Scalar.addi v11 c0_i32_17
  let c0_i32_22 : BitVec 32 := 0#32
  ![v26.toNat, 0]
def k0_dev1 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_105 : BitVec 32 := 4#32
  let v109 : BitVec 32 := Scalar.muli v2 c4_i32_105
  let v110 : BitVec 32 := Scalar.addi c0_i32_106 v109
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_107 : BitVec 32 := 2#32
  let v111 : BitVec 32 := Scalar.muli v5 c2_i32_107
  let v112 : BitVec 32 := Scalar.addi v110 v111
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_108 : BitVec 32 := 1#32
  let v113 : BitVec 32 := Scalar.muli v12 c1_i32_108
  let v114 : BitVec 32 := Scalar.addi v112 v113
  v114.toNat
def k0_dev2 (d0 : Dev nD) : Nat :=
  let c0_i32_111 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_5 v2
  let c4_i32_110 : BitVec 32 := 4#32
  let v115 : BitVec 32 := Scalar.muli v13 c4_i32_110
  let v116 : BitVec 32 := Scalar.addi c0_i32_111 v115
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v117 : BitVec 32 := Scalar.muli v5 c2_i32_112
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v119 : BitVec 32 := Scalar.muli v8 c1_i32_113
  let v120 : BitVec 32 := Scalar.addi v118 v119
  v120.toNat
def k0_dev3 (d0 : Dev nD) : Nat :=
  let c0_i32_116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_115 : BitVec 32 := 4#32
  let v121 : BitVec 32 := Scalar.muli v2 c4_i32_115
  let v122 : BitVec 32 := Scalar.addi c0_i32_116 v121
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_117 : BitVec 32 := 2#32
  let v123 : BitVec 32 := Scalar.muli v14 c2_i32_117
  let v124 : BitVec 32 := Scalar.addi v122 v123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_118 : BitVec 32 := 1#32
  let v125 : BitVec 32 := Scalar.muli v8 c1_i32_118
  let v126 : BitVec 32 := Scalar.addi v124 v125
  v126.toNat
def k0_dev4 (d0 : Dev nD) : Nat :=
  let c0_i32_121 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_120 : BitVec 32 := 4#32
  let v127 : BitVec 32 := Scalar.muli v15 c4_i32_120
  let v128 : BitVec 32 := Scalar.addi c0_i32_121 v127
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_122 : BitVec 32 := 2#32
  let v129 : BitVec 32 := Scalar.muli v16 c2_i32_122
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v131 : BitVec 32 := Scalar.muli v8 c1_i32_123
  let v132 : BitVec 32 := Scalar.addi v130 v131
  v132.toNat
def k0_dev5 (d0 : Dev nD) : Nat :=
  let c0_i32_142 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_141 : BitVec 32 := 4#32
  let v143 : BitVec 32 := Scalar.muli v2 c4_i32_141
  let v144 : BitVec 32 := Scalar.addi c0_i32_142 v143
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v145 : BitVec 32 := Scalar.muli v5 c2_i32_143
  let v146 : BitVec 32 := Scalar.addi v144 v145
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_144 : BitVec 32 := 1#32
  let v147 : BitVec 32 := Scalar.muli v12 c1_i32_144
  let v148 : BitVec 32 := Scalar.addi v146 v147
  v148.toNat
def k0_dev6 (d0 : Dev nD) : Nat :=
  let c0_i32_165 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_164 : BitVec 32 := 4#32
  let v167 : BitVec 32 := Scalar.muli v2 c4_i32_164
  let v168 : BitVec 32 := Scalar.addi c0_i32_165 v167
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_166 : BitVec 32 := 2#32
  let v169 : BitVec 32 := Scalar.muli v5 c2_i32_166
  let v170 : BitVec 32 := Scalar.addi v168 v169
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_167 : BitVec 32 := 1#32
  let v171 : BitVec 32 := Scalar.muli v12 c1_i32_167
  let v172 : BitVec 32 := Scalar.addi v170 v171
  v172.toNat
def k0_dev7 (d0 : Dev nD) : Nat :=
  let c0_i32_188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_187 : BitVec 32 := 4#32
  let v191 : BitVec 32 := Scalar.muli v2 c4_i32_187
  let v192 : BitVec 32 := Scalar.addi c0_i32_188 v191
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_189 : BitVec 32 := 2#32
  let v193 : BitVec 32 := Scalar.muli v5 c2_i32_189
  let v194 : BitVec 32 := Scalar.addi v192 v193
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_190 : BitVec 32 := 1#32
  let v195 : BitVec 32 := Scalar.muli v12 c1_i32_190
  let v196 : BitVec 32 := Scalar.addi v194 v195
  v196.toNat
def k0_dev8 (d0 : Dev nD) : Nat :=
  let c0_i32_211 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_210 : BitVec 32 := 4#32
  let v215 : BitVec 32 := Scalar.muli v2 c4_i32_210
  let v216 : BitVec 32 := Scalar.addi c0_i32_211 v215
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_212 : BitVec 32 := 2#32
  let v217 : BitVec 32 := Scalar.muli v5 c2_i32_212
  let v218 : BitVec 32 := Scalar.addi v216 v217
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_213 : BitVec 32 := 1#32
  let v219 : BitVec 32 := Scalar.muli v12 c1_i32_213
  let v220 : BitVec 32 := Scalar.addi v218 v219
  v220.toNat
def k0_dev9 (d0 : Dev nD) : Nat :=
  let c0_i32_234 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_233 : BitVec 32 := 4#32
  let v239 : BitVec 32 := Scalar.muli v2 c4_i32_233
  let v240 : BitVec 32 := Scalar.addi c0_i32_234 v239
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_235 : BitVec 32 := 2#32
  let v241 : BitVec 32 := Scalar.muli v5 c2_i32_235
  let v242 : BitVec 32 := Scalar.addi v240 v241
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_236 : BitVec 32 := 1#32
  let v243 : BitVec 32 := Scalar.muli v12 c1_i32_236
  let v244 : BitVec 32 := Scalar.addi v242 v243
  v244.toNat
def k0_dev10 (d0 : Dev nD) : Nat :=
  let c0_i32_257 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_256 : BitVec 32 := 4#32
  let v263 : BitVec 32 := Scalar.muli v2 c4_i32_256
  let v264 : BitVec 32 := Scalar.addi c0_i32_257 v263
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_258 : BitVec 32 := 2#32
  let v265 : BitVec 32 := Scalar.muli v5 c2_i32_258
  let v266 : BitVec 32 := Scalar.addi v264 v265
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_259 : BitVec 32 := 1#32
  let v267 : BitVec 32 := Scalar.muli v12 c1_i32_259
  let v268 : BitVec 32 := Scalar.addi v266 v267
  v268.toNat
def k0_dev11 (d0 : Dev nD) : Nat :=
  let c0_i32_280 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_279 : BitVec 32 := 4#32
  let v287 : BitVec 32 := Scalar.muli v2 c4_i32_279
  let v288 : BitVec 32 := Scalar.addi c0_i32_280 v287
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_281 : BitVec 32 := 2#32
  let v289 : BitVec 32 := Scalar.muli v5 c2_i32_281
  let v290 : BitVec 32 := Scalar.addi v288 v289
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_282 : BitVec 32 := 1#32
  let v291 : BitVec 32 := Scalar.muli v12 c1_i32_282
  let v292 : BitVec 32 := Scalar.addi v290 v291
  v292.toNat
def k0_dev12 (d0 : Dev nD) : Nat :=
  let c0_i32_303 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_302 : BitVec 32 := 4#32
  let v311 : BitVec 32 := Scalar.muli v2 c4_i32_302
  let v312 : BitVec 32 := Scalar.addi c0_i32_303 v311
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_304 : BitVec 32 := 2#32
  let v313 : BitVec 32 := Scalar.muli v5 c2_i32_304
  let v314 : BitVec 32 := Scalar.addi v312 v313
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_305 : BitVec 32 := 1#32
  let v315 : BitVec 32 := Scalar.muli v12 c1_i32_305
  let v316 : BitVec 32 := Scalar.addi v314 v315
  v316.toNat
def k0_off3 (d0 : Dev nD) (c0_i32_340 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let v364 : BitVec 32 := Scalar.addi v11 c0_i32_340
  let v365 : Index := Scalar.indexCast v364
  let c0_341 : Index := 0#32
  ![v365.toNat, 0]
def k0_dev13 (d0 : Dev nD) : Nat :=
  let c0_i32_348 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_5 v2
  let c4_i32_347 : BitVec 32 := 4#32
  let v368 : BitVec 32 := Scalar.muli v13 c4_i32_347
  let v369 : BitVec 32 := Scalar.addi c0_i32_348 v368
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_349 : BitVec 32 := 2#32
  let v370 : BitVec 32 := Scalar.muli v5 c2_i32_349
  let v371 : BitVec 32 := Scalar.addi v369 v370
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_350 : BitVec 32 := 1#32
  let v372 : BitVec 32 := Scalar.muli v8 c1_i32_350
  let v373 : BitVec 32 := Scalar.addi v371 v372
  v373.toNat
def k0_dev14 (d0 : Dev nD) : Nat :=
  let c0_i32_358 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_357 : BitVec 32 := 4#32
  let v380 : BitVec 32 := Scalar.muli v2 c4_i32_357
  let v381 : BitVec 32 := Scalar.addi c0_i32_358 v380
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_359 : BitVec 32 := 2#32
  let v382 : BitVec 32 := Scalar.muli v14 c2_i32_359
  let v383 : BitVec 32 := Scalar.addi v381 v382
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_360 : BitVec 32 := 1#32
  let v384 : BitVec 32 := Scalar.muli v8 c1_i32_360
  let v385 : BitVec 32 := Scalar.addi v383 v384
  v385.toNat
def k0_off4 (d0 : Dev nD) (c0_i32_363 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let v392 : BitVec 32 := Scalar.addi v11 c0_i32_363
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c32_i32 : BitVec 32 := 32#32
  let v393 : BitVec 32 := Scalar.muli v8 c32_i32
  let v394 : BitVec 32 := Scalar.addi v392 v393
  let c0_i32_372 : BitVec 32 := 0#32
  ![v394.toNat, 0]
def k0_dev15 (d0 : Dev nD) : Nat :=
  let c0_i32_369 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_368 : BitVec 32 := 4#32
  let v395 : BitVec 32 := Scalar.muli v15 c4_i32_368
  let v396 : BitVec 32 := Scalar.addi c0_i32_369 v395
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_370 : BitVec 32 := 2#32
  let v397 : BitVec 32 := Scalar.muli v16 c2_i32_370
  let v398 : BitVec 32 := Scalar.addi v396 v397
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_371 : BitVec 32 := 1#32
  let v399 : BitVec 32 := Scalar.muli v8 c1_i32_371
  let v400 : BitVec 32 := Scalar.addi v398 v399
  v400.toNat
def k0_dev16 (d0 : Dev nD) : Nat :=
  let c0_i32_413 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_5 v2
  let c4_i32_412 : BitVec 32 := 4#32
  let v450 : BitVec 32 := Scalar.muli v13 c4_i32_412
  let v451 : BitVec 32 := Scalar.addi c0_i32_413 v450
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_414 : BitVec 32 := 2#32
  let v452 : BitVec 32 := Scalar.muli v5 c2_i32_414
  let v453 : BitVec 32 := Scalar.addi v451 v452
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_415 : BitVec 32 := 1#32
  let v454 : BitVec 32 := Scalar.muli v8 c1_i32_415
  let v455 : BitVec 32 := Scalar.addi v453 v454
  v455.toNat
def k0_dev17 (d0 : Dev nD) : Nat :=
  let c0_i32_423 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_422 : BitVec 32 := 4#32
  let v462 : BitVec 32 := Scalar.muli v2 c4_i32_422
  let v463 : BitVec 32 := Scalar.addi c0_i32_423 v462
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_424 : BitVec 32 := 2#32
  let v464 : BitVec 32 := Scalar.muli v14 c2_i32_424
  let v465 : BitVec 32 := Scalar.addi v463 v464
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_425 : BitVec 32 := 1#32
  let v466 : BitVec 32 := Scalar.muli v8 c1_i32_425
  let v467 : BitVec 32 := Scalar.addi v465 v466
  v467.toNat
def k0_dev18 (d0 : Dev nD) : Nat :=
  let c0_i32_435 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_434 : BitVec 32 := 4#32
  let v477 : BitVec 32 := Scalar.muli v15 c4_i32_434
  let v478 : BitVec 32 := Scalar.addi c0_i32_435 v477
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_436 : BitVec 32 := 2#32
  let v479 : BitVec 32 := Scalar.muli v16 c2_i32_436
  let v480 : BitVec 32 := Scalar.addi v478 v479
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_437 : BitVec 32 := 1#32
  let v481 : BitVec 32 := Scalar.muli v8 c1_i32_437
  let v482 : BitVec 32 := Scalar.addi v480 v481
  v482.toNat
def k0_dev19 (d0 : Dev nD) : Nat :=
  let c0_i32_479 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_5 v2
  let c4_i32_478 : BitVec 32 := 4#32
  let v532 : BitVec 32 := Scalar.muli v13 c4_i32_478
  let v533 : BitVec 32 := Scalar.addi c0_i32_479 v532
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_480 : BitVec 32 := 2#32
  let v534 : BitVec 32 := Scalar.muli v5 c2_i32_480
  let v535 : BitVec 32 := Scalar.addi v533 v534
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_481 : BitVec 32 := 1#32
  let v536 : BitVec 32 := Scalar.muli v8 c1_i32_481
  let v537 : BitVec 32 := Scalar.addi v535 v536
  v537.toNat
def k0_dev20 (d0 : Dev nD) : Nat :=
  let c0_i32_489 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_488 : BitVec 32 := 4#32
  let v544 : BitVec 32 := Scalar.muli v2 c4_i32_488
  let v545 : BitVec 32 := Scalar.addi c0_i32_489 v544
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_490 : BitVec 32 := 2#32
  let v546 : BitVec 32 := Scalar.muli v14 c2_i32_490
  let v547 : BitVec 32 := Scalar.addi v545 v546
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_491 : BitVec 32 := 1#32
  let v548 : BitVec 32 := Scalar.muli v8 c1_i32_491
  let v549 : BitVec 32 := Scalar.addi v547 v548
  v549.toNat
def k0_dev21 (d0 : Dev nD) : Nat :=
  let c0_i32_501 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_500 : BitVec 32 := 4#32
  let v559 : BitVec 32 := Scalar.muli v15 c4_i32_500
  let v560 : BitVec 32 := Scalar.addi c0_i32_501 v559
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_502 : BitVec 32 := 2#32
  let v561 : BitVec 32 := Scalar.muli v16 c2_i32_502
  let v562 : BitVec 32 := Scalar.addi v560 v561
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_503 : BitVec 32 := 1#32
  let v563 : BitVec 32 := Scalar.muli v8 c1_i32_503
  let v564 : BitVec 32 := Scalar.addi v562 v563
  v564.toNat
def k0_dev22 (d0 : Dev nD) : Nat :=
  let c0_i32_545 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_5 v2
  let c4_i32_544 : BitVec 32 := 4#32
  let v614 : BitVec 32 := Scalar.muli v13 c4_i32_544
  let v615 : BitVec 32 := Scalar.addi c0_i32_545 v614
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_546 : BitVec 32 := 2#32
  let v616 : BitVec 32 := Scalar.muli v5 c2_i32_546
  let v617 : BitVec 32 := Scalar.addi v615 v616
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_547 : BitVec 32 := 1#32
  let v618 : BitVec 32 := Scalar.muli v8 c1_i32_547
  let v619 : BitVec 32 := Scalar.addi v617 v618
  v619.toNat
def k0_dev23 (d0 : Dev nD) : Nat :=
  let c0_i32_555 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_554 : BitVec 32 := 4#32
  let v626 : BitVec 32 := Scalar.muli v2 c4_i32_554
  let v627 : BitVec 32 := Scalar.addi c0_i32_555 v626
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_556 : BitVec 32 := 2#32
  let v628 : BitVec 32 := Scalar.muli v14 c2_i32_556
  let v629 : BitVec 32 := Scalar.addi v627 v628
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_557 : BitVec 32 := 1#32
  let v630 : BitVec 32 := Scalar.muli v8 c1_i32_557
  let v631 : BitVec 32 := Scalar.addi v629 v630
  v631.toNat
def k0_dev24 (d0 : Dev nD) : Nat :=
  let c0_i32_567 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_566 : BitVec 32 := 4#32
  let v641 : BitVec 32 := Scalar.muli v15 c4_i32_566
  let v642 : BitVec 32 := Scalar.addi c0_i32_567 v641
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_568 : BitVec 32 := 2#32
  let v643 : BitVec 32 := Scalar.muli v16 c2_i32_568
  let v644 : BitVec 32 := Scalar.addi v642 v643
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_569 : BitVec 32 := 1#32
  let v645 : BitVec 32 := Scalar.muli v8 c1_i32_569
  let v646 : BitVec 32 := Scalar.addi v644 v645
  v646.toNat
def k0_dev25 (d0 : Dev nD) : Nat :=
  let c0_i32_611 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_5 v2
  let c4_i32_610 : BitVec 32 := 4#32
  let v696 : BitVec 32 := Scalar.muli v13 c4_i32_610
  let v697 : BitVec 32 := Scalar.addi c0_i32_611 v696
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_612 : BitVec 32 := 2#32
  let v698 : BitVec 32 := Scalar.muli v5 c2_i32_612
  let v699 : BitVec 32 := Scalar.addi v697 v698
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_613 : BitVec 32 := 1#32
  let v700 : BitVec 32 := Scalar.muli v8 c1_i32_613
  let v701 : BitVec 32 := Scalar.addi v699 v700
  v701.toNat
def k0_dev26 (d0 : Dev nD) : Nat :=
  let c0_i32_621 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_620 : BitVec 32 := 4#32
  let v708 : BitVec 32 := Scalar.muli v2 c4_i32_620
  let v709 : BitVec 32 := Scalar.addi c0_i32_621 v708
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_622 : BitVec 32 := 2#32
  let v710 : BitVec 32 := Scalar.muli v14 c2_i32_622
  let v711 : BitVec 32 := Scalar.addi v709 v710
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_623 : BitVec 32 := 1#32
  let v712 : BitVec 32 := Scalar.muli v8 c1_i32_623
  let v713 : BitVec 32 := Scalar.addi v711 v712
  v713.toNat
def k0_dev27 (d0 : Dev nD) : Nat :=
  let c0_i32_633 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_632 : BitVec 32 := 4#32
  let v723 : BitVec 32 := Scalar.muli v15 c4_i32_632
  let v724 : BitVec 32 := Scalar.addi c0_i32_633 v723
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_634 : BitVec 32 := 2#32
  let v725 : BitVec 32 := Scalar.muli v16 c2_i32_634
  let v726 : BitVec 32 := Scalar.addi v724 v725
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_635 : BitVec 32 := 1#32
  let v727 : BitVec 32 := Scalar.muli v8 c1_i32_635
  let v728 : BitVec 32 := Scalar.addi v726 v727
  v728.toNat
def k0_dev28 (d0 : Dev nD) : Nat :=
  let c0_i32_677 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_5 v2
  let c4_i32_676 : BitVec 32 := 4#32
  let v778 : BitVec 32 := Scalar.muli v13 c4_i32_676
  let v779 : BitVec 32 := Scalar.addi c0_i32_677 v778
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_678 : BitVec 32 := 2#32
  let v780 : BitVec 32 := Scalar.muli v5 c2_i32_678
  let v781 : BitVec 32 := Scalar.addi v779 v780
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_679 : BitVec 32 := 1#32
  let v782 : BitVec 32 := Scalar.muli v8 c1_i32_679
  let v783 : BitVec 32 := Scalar.addi v781 v782
  v783.toNat
def k0_dev29 (d0 : Dev nD) : Nat :=
  let c0_i32_687 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_686 : BitVec 32 := 4#32
  let v790 : BitVec 32 := Scalar.muli v2 c4_i32_686
  let v791 : BitVec 32 := Scalar.addi c0_i32_687 v790
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_688 : BitVec 32 := 2#32
  let v792 : BitVec 32 := Scalar.muli v14 c2_i32_688
  let v793 : BitVec 32 := Scalar.addi v791 v792
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_689 : BitVec 32 := 1#32
  let v794 : BitVec 32 := Scalar.muli v8 c1_i32_689
  let v795 : BitVec 32 := Scalar.addi v793 v794
  v795.toNat
def k0_dev30 (d0 : Dev nD) : Nat :=
  let c0_i32_699 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_698 : BitVec 32 := 4#32
  let v805 : BitVec 32 := Scalar.muli v15 c4_i32_698
  let v806 : BitVec 32 := Scalar.addi c0_i32_699 v805
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_700 : BitVec 32 := 2#32
  let v807 : BitVec 32 := Scalar.muli v16 c2_i32_700
  let v808 : BitVec 32 := Scalar.addi v806 v807
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_701 : BitVec 32 := 1#32
  let v809 : BitVec 32 := Scalar.muli v8 c1_i32_701
  let v810 : BitVec 32 := Scalar.addi v808 v809
  v810.toNat
def k0_dev31 (d0 : Dev nD) : Nat :=
  let c0_i32_743 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_5 v2
  let c4_i32_742 : BitVec 32 := 4#32
  let v860 : BitVec 32 := Scalar.muli v13 c4_i32_742
  let v861 : BitVec 32 := Scalar.addi c0_i32_743 v860
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_744 : BitVec 32 := 2#32
  let v862 : BitVec 32 := Scalar.muli v5 c2_i32_744
  let v863 : BitVec 32 := Scalar.addi v861 v862
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_745 : BitVec 32 := 1#32
  let v864 : BitVec 32 := Scalar.muli v8 c1_i32_745
  let v865 : BitVec 32 := Scalar.addi v863 v864
  v865.toNat
def k0_dev32 (d0 : Dev nD) : Nat :=
  let c0_i32_753 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_752 : BitVec 32 := 4#32
  let v872 : BitVec 32 := Scalar.muli v2 c4_i32_752
  let v873 : BitVec 32 := Scalar.addi c0_i32_753 v872
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_754 : BitVec 32 := 2#32
  let v874 : BitVec 32 := Scalar.muli v14 c2_i32_754
  let v875 : BitVec 32 := Scalar.addi v873 v874
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_755 : BitVec 32 := 1#32
  let v876 : BitVec 32 := Scalar.muli v8 c1_i32_755
  let v877 : BitVec 32 := Scalar.addi v875 v876
  v877.toNat
def k0_dev33 (d0 : Dev nD) : Nat :=
  let c0_i32_765 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_764 : BitVec 32 := 4#32
  let v887 : BitVec 32 := Scalar.muli v15 c4_i32_764
  let v888 : BitVec 32 := Scalar.addi c0_i32_765 v887
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_766 : BitVec 32 := 2#32
  let v889 : BitVec 32 := Scalar.muli v16 c2_i32_766
  let v890 : BitVec 32 := Scalar.addi v888 v889
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_767 : BitVec 32 := 1#32
  let v891 : BitVec 32 := Scalar.muli v8 c1_i32_767
  let v892 : BitVec 32 := Scalar.addi v890 v891
  v892.toNat
def k0_dev34 (d0 : Dev nD) : Nat :=
  let c0_i32_809 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_5 v2
  let c4_i32_808 : BitVec 32 := 4#32
  let v942 : BitVec 32 := Scalar.muli v13 c4_i32_808
  let v943 : BitVec 32 := Scalar.addi c0_i32_809 v942
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_810 : BitVec 32 := 2#32
  let v944 : BitVec 32 := Scalar.muli v5 c2_i32_810
  let v945 : BitVec 32 := Scalar.addi v943 v944
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_811 : BitVec 32 := 1#32
  let v946 : BitVec 32 := Scalar.muli v8 c1_i32_811
  let v947 : BitVec 32 := Scalar.addi v945 v946
  v947.toNat
def k0_dev35 (d0 : Dev nD) : Nat :=
  let c0_i32_819 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_818 : BitVec 32 := 4#32
  let v954 : BitVec 32 := Scalar.muli v2 c4_i32_818
  let v955 : BitVec 32 := Scalar.addi c0_i32_819 v954
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_820 : BitVec 32 := 2#32
  let v956 : BitVec 32 := Scalar.muli v14 c2_i32_820
  let v957 : BitVec 32 := Scalar.addi v955 v956
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_821 : BitVec 32 := 1#32
  let v958 : BitVec 32 := Scalar.muli v8 c1_i32_821
  let v959 : BitVec 32 := Scalar.addi v957 v958
  v959.toNat
def k0_dev36 (d0 : Dev nD) : Nat :=
  let c0_i32_831 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_830 : BitVec 32 := 4#32
  let v969 : BitVec 32 := Scalar.muli v15 c4_i32_830
  let v970 : BitVec 32 := Scalar.addi c0_i32_831 v969
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_832 : BitVec 32 := 2#32
  let v971 : BitVec 32 := Scalar.muli v16 c2_i32_832
  let v972 : BitVec 32 := Scalar.addi v970 v971
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_833 : BitVec 32 := 1#32
  let v973 : BitVec 32 := Scalar.muli v8 c1_i32_833
  let v974 : BitVec 32 := Scalar.addi v972 v973
  v974.toNat
def k0_off5 (d0 : Dev nD) (c0_i32_837 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c3_i32 : BitVec 32 := 3#32
  let v19 : BitVec 32 := Scalar.xori v10 c3_i32
  let c512_i32_836 : BitVec 32 := 512#32
  let v981 : BitVec 32 := Scalar.muli v19 c512_i32_836
  let v982 : BitVec 32 := Scalar.addi v981 c0_i32_837
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c32_i32_838 : BitVec 32 := 32#32
  let v983 : BitVec 32 := Scalar.muli v8 c32_i32_838
  let v984 : BitVec 32 := Scalar.addi v982 v983
  let c0_i32_847 : BitVec 32 := 0#32
  ![v984.toNat, 0]
def k0_dev37 (d0 : Dev nD) : Nat :=
  let c0_i32_854 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_853 : BitVec 32 := 4#32
  let v995 : BitVec 32 := Scalar.muli v2 c4_i32_853
  let v996 : BitVec 32 := Scalar.addi c0_i32_854 v995
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_855 : BitVec 32 := 2#32
  let v997 : BitVec 32 := Scalar.muli v5 c2_i32_855
  let v998 : BitVec 32 := Scalar.addi v996 v997
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_856 : BitVec 32 := 1#32
  let v999 : BitVec 32 := Scalar.muli v12 c1_i32_856
  let v1000 : BitVec 32 := Scalar.addi v998 v999
  v1000.toNat
def k0_dev38 (d0 : Dev nD) : Nat :=
  let c0_i32_877 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_876 : BitVec 32 := 4#32
  let v1021 : BitVec 32 := Scalar.muli v2 c4_i32_876
  let v1022 : BitVec 32 := Scalar.addi c0_i32_877 v1021
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_878 : BitVec 32 := 2#32
  let v1023 : BitVec 32 := Scalar.muli v5 c2_i32_878
  let v1024 : BitVec 32 := Scalar.addi v1022 v1023
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_879 : BitVec 32 := 1#32
  let v1025 : BitVec 32 := Scalar.muli v12 c1_i32_879
  let v1026 : BitVec 32 := Scalar.addi v1024 v1025
  v1026.toNat
def k0_dev39 (d0 : Dev nD) : Nat :=
  let c0_i32_900 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_899 : BitVec 32 := 4#32
  let v1047 : BitVec 32 := Scalar.muli v2 c4_i32_899
  let v1048 : BitVec 32 := Scalar.addi c0_i32_900 v1047
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_901 : BitVec 32 := 2#32
  let v1049 : BitVec 32 := Scalar.muli v5 c2_i32_901
  let v1050 : BitVec 32 := Scalar.addi v1048 v1049
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_902 : BitVec 32 := 1#32
  let v1051 : BitVec 32 := Scalar.muli v12 c1_i32_902
  let v1052 : BitVec 32 := Scalar.addi v1050 v1051
  v1052.toNat
def k0_dev40 (d0 : Dev nD) : Nat :=
  let c0_i32_923 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_922 : BitVec 32 := 4#32
  let v1073 : BitVec 32 := Scalar.muli v2 c4_i32_922
  let v1074 : BitVec 32 := Scalar.addi c0_i32_923 v1073
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_924 : BitVec 32 := 2#32
  let v1075 : BitVec 32 := Scalar.muli v5 c2_i32_924
  let v1076 : BitVec 32 := Scalar.addi v1074 v1075
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_925 : BitVec 32 := 1#32
  let v1077 : BitVec 32 := Scalar.muli v12 c1_i32_925
  let v1078 : BitVec 32 := Scalar.addi v1076 v1077
  v1078.toNat
def k0_dev41 (d0 : Dev nD) : Nat :=
  let c0_i32_946 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_945 : BitVec 32 := 4#32
  let v1099 : BitVec 32 := Scalar.muli v2 c4_i32_945
  let v1100 : BitVec 32 := Scalar.addi c0_i32_946 v1099
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_947 : BitVec 32 := 2#32
  let v1101 : BitVec 32 := Scalar.muli v5 c2_i32_947
  let v1102 : BitVec 32 := Scalar.addi v1100 v1101
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_948 : BitVec 32 := 1#32
  let v1103 : BitVec 32 := Scalar.muli v12 c1_i32_948
  let v1104 : BitVec 32 := Scalar.addi v1102 v1103
  v1104.toNat
def k0_dev42 (d0 : Dev nD) : Nat :=
  let c0_i32_969 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_968 : BitVec 32 := 4#32
  let v1125 : BitVec 32 := Scalar.muli v2 c4_i32_968
  let v1126 : BitVec 32 := Scalar.addi c0_i32_969 v1125
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_970 : BitVec 32 := 2#32
  let v1127 : BitVec 32 := Scalar.muli v5 c2_i32_970
  let v1128 : BitVec 32 := Scalar.addi v1126 v1127
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_971 : BitVec 32 := 1#32
  let v1129 : BitVec 32 := Scalar.muli v12 c1_i32_971
  let v1130 : BitVec 32 := Scalar.addi v1128 v1129
  v1130.toNat
def k0_dev43 (d0 : Dev nD) : Nat :=
  let c0_i32_992 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_991 : BitVec 32 := 4#32
  let v1151 : BitVec 32 := Scalar.muli v2 c4_i32_991
  let v1152 : BitVec 32 := Scalar.addi c0_i32_992 v1151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_993 : BitVec 32 := 2#32
  let v1153 : BitVec 32 := Scalar.muli v5 c2_i32_993
  let v1154 : BitVec 32 := Scalar.addi v1152 v1153
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_994 : BitVec 32 := 1#32
  let v1155 : BitVec 32 := Scalar.muli v12 c1_i32_994
  let v1156 : BitVec 32 := Scalar.addi v1154 v1155
  v1156.toNat
def k0_dev44 (d0 : Dev nD) : Nat :=
  let c0_i32_1015 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1014 : BitVec 32 := 4#32
  let v1177 : BitVec 32 := Scalar.muli v2 c4_i32_1014
  let v1178 : BitVec 32 := Scalar.addi c0_i32_1015 v1177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1016 : BitVec 32 := 2#32
  let v1179 : BitVec 32 := Scalar.muli v5 c2_i32_1016
  let v1180 : BitVec 32 := Scalar.addi v1178 v1179
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_1017 : BitVec 32 := 1#32
  let v1181 : BitVec 32 := Scalar.muli v12 c1_i32_1017
  let v1182 : BitVec 32 := Scalar.addi v1180 v1181
  v1182.toNat
def k0_off6 (d0 : Dev nD) (c2_i32_9 : BitVec 32) (c0_i32_1023 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v17 : BitVec 32 := Scalar.xori v10 c2_i32_9
  let c512_i32_1022 : BitVec 32 := 512#32
  let v1191 : BitVec 32 := Scalar.muli v17 c512_i32_1022
  let v1192 : BitVec 32 := Scalar.addi v1191 c0_i32_1023
  let c0_i32_1032 : BitVec 32 := 0#32
  ![v1192.toNat, 0]
def k0_off7 (d0 : Dev nD) (c0_i32_1049 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c3_i32 : BitVec 32 := 3#32
  let v19 : BitVec 32 := Scalar.xori v10 c3_i32
  let c512_i32_1048 : BitVec 32 := 512#32
  let v1217 : BitVec 32 := Scalar.muli v19 c512_i32_1048
  let v1218 : BitVec 32 := Scalar.addi v1217 c0_i32_1049
  let c1_i32_1050 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1219 : BitVec 32 := Scalar.subi c1_i32_1050 v8
  let c32_i32_1051 : BitVec 32 := 32#32
  let v1220 : BitVec 32 := Scalar.muli v1219 c32_i32_1051
  let v1221 : BitVec 32 := Scalar.addi v1218 v1220
  let c0_i32_1060 : BitVec 32 := 0#32
  ![v1221.toNat, 0]
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x2048 : Shape := ⟨3, ![2, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x2048, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Prog.lean ====
module

public import proofs.«01_k».proof.Proof.Gen.KernelIdeal.Skeleton
public import proofs.«01_k».proof.Proof.Gen.KernelIdeal.Points
public import proofs.«01_k».proof.Proof.Gen.KernelIdeal.Launch

@[expose] public section

/-! # The kernel body as loops over the eight chunks

The printed body is straight-line: each of its loops over the chunks is written out eight times. Here each
loop's step is stated once, at a symbolic chunk `i` and a symbolic device `d`, with the rest of the program as
an argument; `body_eq` says that the printed body is these steps in order. -/

noncomputable section

namespace Cert.KernelIdeal.Gen

open Idealize.ShloMosaic Idealize.ShloMosaic.TcCoe Idealize.SL.Sem

variable {F : FTy → Type} [FloatOps F]

/-! ## In-bounds facts of the slices at a symbolic chunk -/

theorem chunk_inb (i : Fin 8) : ∀ a, (![64 * i.val, 0] : Fin 2 → Nat) a + S64x2048.size a ≤ S512x2048.size a := by
  revert i; decide
theorem slot_inb (i : Fin 8) : ∀ a, (![i.val, 0, 0] : Fin 3 → Nat) a + S1x64x2048.size a ≤ S8x64x2048.size a := by
  revert i; decide
theorem sem2_inb (k : Fin 2) (i : Fin 8) : ∀ a, (![k.val, i.val] : Fin 2 → Nat) a + S1x1.size a ≤ S2x8.size a := by
  revert k i; decide
theorem sem5_inb (k : Fin 5) (i : Fin 8) : ∀ a, (![k.val, i.val] : Fin 2 → Nat) a + S1x1.size a ≤ S5x8.size a := by
  revert k i; decide
theorem slot_words (i : Fin 8) :
    (Rect.unit (s := S8x64x2048) ![i.val, 0, 0] S1x64x2048.size (slot_inb i)).WholeWords (EltTy.packing .bf16) := by
  revert i; decide +kernel
theorem slot_packed (i : Fin 8) :
    (Rect.unit (s := S8x64x2048) ![i.val, 0, 0] S1x64x2048.size (slot_inb i)).PackedRows (EltTy.packing .bf16) := by
  revert i; decide +kernel

/-! ## Memory and semaphores of the body -/

abbrev pM : Memref sig .tc .hbm S1x2048x2048 .f32 := Memref.whole main_arg0
abbrev rM : Memref sig .tc .hbm S2048x2048 .f32 := Memref.whole main_arg1
abbrev gM : Memref sig .tc .vmem S1x2048 .f32 := Memref.whole cc0_stg0_0
abbrev oM : Memref sig .tc .vmem S2048x2048 .bf16 := Memref.whole cc0_stg1_0
abbrev pqM : Memref sig .tc .vmem S512x2048 .f32 := Memref.whole cc0_scratch0
abbrev rqM : Memref sig .tc .vmem S512x2048 .f32 := Memref.whole cc0_scratch1
abbrev zsM : Memref sig .tc .vmem S8x64x2048 .bf16 := Memref.whole cc0_scratch2
abbrev zrM : Memref sig .tc .vmem S8x64x2048 .bf16 := Memref.whole cc0_scratch3

/-- The barrier semaphore. -/
abbrev barS : Sem sig := (SemArray.scalar (sig.barrier 0 rfl) : Sems sig S_).sem
/-- The semaphore of local copy `k` (0: partials, 1: residuals) of chunk `i`. -/
abbrev cpS (k : Fin 2) (i : Fin 8) : DmaSem sig :=
  ((cc0_scratch4.slice (Rect.unit (s := S2x8) ![k.val, i.val] S1x1.size (sem2_inb k i))).squeeze S_ squeezes_S1x1_S_).sem
/-- The send semaphore of channel `k`, chunk `i`. -/
abbrev sdS (k : Fin 5) (i : Fin 8) : DmaSem sig :=
  ((cc0_scratch5.slice (Rect.unit (s := S5x8) ![k.val, i.val] S1x1.size (sem5_inb k i))).squeeze S_ squeezes_S1x1_S_).sem
/-- The receive semaphore of channel `k`, chunk `i`. -/
abbrev rvS (k : Fin 5) (i : Fin 8) : DmaSem sig :=
  ((cc0_scratch6.slice (Rect.unit (s := S5x8) ![k.val, i.val] S1x1.size (sem5_inb k i))).squeeze S_ squeezes_S1x1_S_).sem

/-- The word of a chunk's first row. -/
abbrev cw (i : Fin 8) : BitVec 32 := BitVec.ofNat 32 (64 * i.val)

abbrev pqC (i : Fin 8) : Memref sig .tc .vmem S64x2048 .f32 :=
  pqM.slice (Rect.unit (s := S512x2048) ![64 * i.val, 0] S64x2048.size (chunk_inb i)) (fun _ => rfl)
abbrev rqC (i : Fin 8) : Memref sig .tc .vmem S64x2048 .f32 :=
  rqM.slice (Rect.unit (s := S512x2048) ![64 * i.val, 0] S64x2048.size (chunk_inb i)) (fun _ => rfl)
abbrev pC (d : Dev nD) (i : Fin 8) : Memref sig .tc .hbm S64x2048 .f32 :=
  (pM.slice (Rect.unit (s := S1x2048x2048) (k0_off1 d (cw i)) S1x64x2048.size (k0_off1_inb d i)) (fun _ => rfl)).squeeze
    S64x2048 squeezes_S1x64x2048_S64x2048
abbrev rC (d : Dev nD) (i : Fin 8) : Memref sig .tc .hbm S64x2048 .f32 :=
  rM.slice (Rect.unit (s := S2048x2048) (k0_off2 d (cw i)) S64x2048.size (k0_off2_inb d i)) (fun _ => rfl)
abbrev zsC (i : Fin 8) : Memref sig .tc .vmem S64x2048 .bf16 :=
  (zsM.slice (Rect.unit (s := S8x64x2048) ![i.val, 0, 0] S1x64x2048.size (slot_inb i)) (fun _ => rfl)).squeeze
    S64x2048 squeezes_S1x64x2048_S64x2048
abbrev zrC (i : Fin 8) : Memref sig .tc .vmem S64x2048 .bf16 :=
  (zrM.slice (Rect.unit (s := S8x64x2048) ![i.val, 0, 0] S1x64x2048.size (slot_inb i)) (fun _ => rfl)).squeeze
    S64x2048 squeezes_S1x64x2048_S64x2048
/-- The device's own rows of chunk `i` in the result. -/
abbrev oC (d : Dev nD) (i : Fin 8) : Memref sig .tc .vmem S64x2048 .bf16 :=
  oM.slice (Rect.unit (s := S2048x2048) (k0_off2 d (cw i)) S64x2048.size (k0_off2_inb d i)) (fun _ => rfl)
/-- The half of them the diagonal neighbour is sent. -/
abbrev oH (d : Dev nD) (i : Fin 8) : Memref sig .tc .vmem S32x2048 .bf16 :=
  oM.slice (Rect.unit (s := S2048x2048) (k0_off4 d (cw i)) S32x2048.size (k0_off4_inb d i)) (fun _ => rfl)
/-- The half chunk the diagonal neighbour sends, which is forwarded. -/
abbrev oD (d : Dev nD) (i : Fin 8) : Memref sig .tc .vmem S32x2048 .bf16 :=
  oM.slice (Rect.unit (s := S2048x2048) (k0_off5 d (cw i)) S32x2048.size (k0_off5_inb d i)) (fun _ => rfl)
/-- The chunk of the `y` (`b = 0`) or `x` (`b = 1`) neighbour. -/
abbrev oN (d : Dev nD) (b : Fin 2) (i : Fin 8) : Memref sig .tc .vmem S64x2048 .bf16 :=
  oM.slice (Rect.unit (s := S2048x2048) (k0_off6 d (BitVec.ofNat 32 (1 + b.val)) (cw i)) S64x2048.size (k0_off6_inb d b i)) (fun _ => rfl)
/-- The half chunk the `z` neighbour forwards. -/
abbrev oF (d : Dev nD) (i : Fin 8) : Memref sig .tc .vmem S32x2048 .bf16 :=
  oM.slice (Rect.unit (s := S2048x2048) (k0_off7 d (cw i)) S32x2048.size (k0_off7_inb d i)) (fun _ => rfl)

abbrev zP (d : Dev nD) : Dev nD := ⟨k0_dev1 d, k0_dev1_lt d⟩
abbrev xP (d : Dev nD) : Dev nD := ⟨k0_dev2 d, k0_dev2_lt d⟩
abbrev yP (d : Dev nD) : Dev nD := ⟨k0_dev3 d, k0_dev3_lt d⟩
abbrev dP (d : Dev nD) : Dev nD := ⟨k0_dev4 d, k0_dev4_lt d⟩

/-! ## The steps -/

/-- A program of the body's kind. -/
abbrev BP (F : FTy → Type) : Type 1 := Prog (TpuEff nD τ sig (Elt F) Λ₀ .tc) PUnit

/-- Start the two local copies of chunk `i`. -/
def stCopy (d : Dev nD) (i : Fin 8) (k : BP F) : BP F :=
  .op (.enqueueDma (pC d i) (.here (pqC i)) (.dma (cpS 0 i)) ((View.wordExact_bits rfl).reshape _ _) (View.wordExact_bits rfl) ⟨Or.inl rfl, trivial⟩) fun _ =>
  .op (.enqueueDma (rC d i) (.here (rqC i)) (.dma (cpS 1 i)) (View.wordExact_bits rfl) (View.wordExact_bits rfl) ⟨Or.inl rfl, trivial⟩) fun _ => k

/-- Signal the four neighbours and wait for their four signals. -/
def stBarrier (d : Dev nD) (k : BP F) : BP F :=
  .op (.semSignal (zP d, .tc) barS (1#32).toInt) fun _ =>
  .op (.semSignal (xP d, .tc) barS (1#32).toInt) fun _ =>
  .op (.semSignal (yP d, .tc) barS (1#32).toInt) fun _ =>
  .op (.semSignal (dP d, .tc) barS (1#32).toInt) fun _ =>
  .op (.semWait barS (4#32).toInt) fun _ => k

/-- Wait for the partials of chunk `i`, round them and send them to the `z` neighbour. -/
def stSendZ (d : Dev nD) (i : Fin 8) (k : BP F) : BP F :=
  .op (.waitDma2 (cpS 0 i) (pC d i) (pqC i) ((View.wordExact_bits rfl).reshape _ _) (View.wordExact_bits rfl)) fun _ =>
  .op (.load pqM (Rect.unit (s := S512x2048) ![64 * i.val, 0] S64x2048.size (chunk_inb i)).toLoadRect (View.loadsAt_vmem h_S64x2048)) fun v =>
  .op (.load zsM (Rect.unit (s := S8x64x2048) ![i.val, 0, 0] S1x64x2048.size (slot_inb i)).toLoadRect (View.loadsAt_vmem h_S1x64x2048)) fun _ =>
  .op (.store zsM (Rect.unit (s := S8x64x2048) ![i.val, 0, 0] S1x64x2048.size (slot_inb i)) (k0_pay1 v) Finset.univ
    (View.stores_vmem h_S1x64x2048 ((Memref.isWhole_whole _).storeExact_slice rfl _ (slot_packed i)) (fun _ => rfl)) (.inl rfl)) fun _ =>
  .op (.enqueueDma (zsC i) (.remote (Dev.tc (zP d)) (zrC i) (.dma (sdS 0 i))) (.dma (rvS 0 i))
    (((Memref.isWhole_whole _).wordExact_slice rfl _ (slot_words i)).reshape _ _)
    (((Memref.isWhole_whole _).wordExact_slice rfl _ (slot_words i)).reshape _ _) ⟨⟨rfl, Or.inl rfl⟩, trivial⟩) fun _ => k

/-- Receive the other partials of chunk `i`, compute its rows of the result. -/
def stComp (d : Dev nD) (i : Fin 8) (k : BP F) : BP F :=
  .op (.waitDma2 (rvS 0 i) (zsC i) (zrC i)
    (((Memref.isWhole_whole _).wordExact_slice rfl _ (slot_words i)).reshape _ _)
    (((Memref.isWhole_whole _).wordExact_slice rfl _ (slot_words i)).reshape _ _)) fun _ =>
  .op (.waitDma2 (cpS 1 i) (rC d i) (rqC i) (View.wordExact_bits rfl) (View.wordExact_bits rfl)) fun _ =>
  .op (.load pqM (Rect.unit (s := S512x2048) ![64 * i.val, 0] S64x2048.size (chunk_inb i)).toLoadRect (View.loadsAt_vmem h_S64x2048)) fun vp =>
  .op (.load zrM (Rect.unit (s := S8x64x2048) ![i.val, 0, 0] S1x64x2048.size (slot_inb i)).toLoadRect (View.loadsAt_vmem h_S1x64x2048)) fun vz =>
  .op (.load rqM (Rect.unit (s := S512x2048) ![64 * i.val, 0] S64x2048.size (chunk_inb i)).toLoadRect (View.loadsAt_vmem h_S64x2048)) fun vr =>
  .op (.load gM (Rect.unit (s := S1x2048) ![0, 0] S1x2048.size inb_S1x2048_S1x2048_0_0).toLoadRect (View.loadsAt_vmem h_S1x2048)) fun vg =>
  .op (.load oM (Rect.unit (s := S2048x2048) (k0_off3 d (cw i)) S64x2048.size (k0_off3_inb d i)).toLoadRect (View.loadsAt_vmem h_S64x2048)) fun _ =>
  .op (.store oM (Rect.unit (s := S2048x2048) (k0_off3 d (cw i)) S64x2048.size (k0_off3_inb d i)) (k0_pay12 vp vz vr vg) Finset.univ
    (View.stores_vmem h_S64x2048 ((Memref.isWhole_whole _).storeExact_slice rfl _ (k0_off3_packedbf16 d i)) (fun _ => rfl)) (.inl rfl)) fun _ => k

/-- Send chunk `i` to the `x` and `y` neighbours and half of it to the diagonal one. -/
def stSend (d : Dev nD) (i : Fin 8) (k : BP F) : BP F :=
  .op (.enqueueDma (oC d i) (.remote (Dev.tc (xP d)) (oC d i) (.dma (sdS 1 i))) (.dma (rvS 1 i))
    ((Memref.isWhole_whole _).wordExact_slice rfl _ (k0_off2_wordsbf16 d i)) ((Memref.isWhole_whole _).wordExact_slice rfl _ (k0_off2_wordsbf16 d i)) ⟨⟨rfl, Or.inl rfl⟩, trivial⟩) fun _ =>
  .op (.enqueueDma (oC d i) (.remote (Dev.tc (yP d)) (oC d i) (.dma (sdS 2 i))) (.dma (rvS 2 i))
    ((Memref.isWhole_whole _).wordExact_slice rfl _ (k0_off2_wordsbf16 d i)) ((Memref.isWhole_whole _).wordExact_slice rfl _ (k0_off2_wordsbf16 d i)) ⟨⟨rfl, Or.inl rfl⟩, trivial⟩) fun _ =>
  .op (.enqueueDma (oH d i) (.remote (Dev.tc (dP d)) (oH d i) (.dma (sdS 3 i))) (.dma (rvS 3 i))
    ((Memref.isWhole_whole _).wordExact_slice rfl _ (k0_off4_wordsbf16 d i)) ((Memref.isWhole_whole _).wordExact_slice rfl _ (k0_off4_wordsbf16 d i)) ⟨⟨rfl, Or.inl rfl⟩, trivial⟩) fun _ => k

/-- Receive the diagonal neighbour's half chunk and forward it to the `z` neighbour. -/
def stFwd (d : Dev nD) (i : Fin 8) (k : BP F) : BP F :=
  .op (.waitDma2 (rvS 3 i) (oD d i) (oD d i)
    ((Memref.isWhole_whole _).wordExact_slice rfl _ (k0_off5_wordsbf16 d i)) ((Memref.isWhole_whole _).wordExact_slice rfl _ (k0_off5_wordsbf16 d i))) fun _ =>
  .op (.enqueueDma (oD d i) (.remote (Dev.tc (zP d)) (oD d i) (.dma (sdS 4 i))) (.dma (rvS 4 i))
    ((Memref.isWhole_whole _).wordExact_slice rfl _ (k0_off5_wordsbf16 d i)) ((Memref.isWhole_whole _).wordExact_slice rfl _ (k0_off5_wordsbf16 d i)) ⟨⟨rfl, Or.inl rfl⟩, trivial⟩) fun _ => k

/-- Receive chunk `i` of the `x` and `y` neighbours and the forwarded half chunk. -/
def stRecv (d : Dev nD) (i : Fin 8) (k : BP F) : BP F :=
  .op (.waitDma2 (rvS 1 i) (oN d 1 i) (oN d 1 i)
    ((Memref.isWhole_whole _).wordExact_slice rfl _ (k0_off6_wordsbf16 d 1 i)) ((Memref.isWhole_whole _).wordExact_slice rfl _ (k0_off6_wordsbf16 d 1 i))) fun _ =>
  .op (.waitDma2 (rvS 2 i) (oN d 0 i) (oN d 0 i)
    ((Memref.isWhole_whole _).wordExact_slice rfl _ (k0_off6_wordsbf16 d 0 i)) ((Memref.isWhole_whole _).wordExact_slice rfl _ (k0_off6_wordsbf16 d 0 i))) fun _ =>
  .op (.waitDma2 (rvS 4 i) (oF d i) (oF d i)
    ((Memref.isWhole_whole _).wordExact_slice rfl _ (k0_off7_wordsbf16 d i)) ((Memref.isWhole_whole _).wordExact_slice rfl _ (k0_off7_wordsbf16 d i))) fun _ => k

/-- Wait for the send of the rounded partials. -/
def stDoneZ (i : Fin 8) (k : BP F) : BP F :=
  .op (.waitDma2 (sdS 0 i) (zrC i) (zsC i)
    (((Memref.isWhole_whole _).wordExact_slice rfl _ (slot_words i)).reshape _ _)
    (((Memref.isWhole_whole _).wordExact_slice rfl _ (slot_words i)).reshape _ _)) fun _ => k

/-- Wait for the three sends of chunk `i`. -/
def stDone (d : Dev nD) (i : Fin 8) (k : BP F) : BP F :=
  .op (.waitDma2 (sdS 1 i) (oC d i) (oC d i)
    ((Memref.isWhole_whole _).wordExact_slice rfl _ (k0_off2_wordsbf16 d i)) ((Memref.isWhole_whole _).wordExact_slice rfl _ (k0_off2_wordsbf16 d i))) fun _ =>
  .op (.waitDma2 (sdS 2 i) (oC d i) (oC d i)
    ((Memref.isWhole_whole _).wordExact_slice rfl _ (k0_off2_wordsbf16 d i)) ((Memref.isWhole_whole _).wordExact_slice rfl _ (k0_off2_wordsbf16 d i))) fun _ =>
  .op (.waitDma2 (sdS 3 i) (oH d i) (oH d i)
    ((Memref.isWhole_whole _).wordExact_slice rfl _ (k0_off4_wordsbf16 d i)) ((Memref.isWhole_whole _).wordExact_slice rfl _ (k0_off4_wordsbf16 d i))) fun _ => k

/-- Wait for the forwarding of chunk `i`. -/
def stDoneF (d : Dev nD) (i : Fin 8) (k : BP F) : BP F :=
  .op (.waitDma2 (sdS 4 i) (oD d i) (oD d i)
    ((Memref.isWhole_whole _).wordExact_slice rfl _ (k0_off5_wordsbf16 d i)) ((Memref.isWhole_whole _).wordExact_slice rfl _ (k0_off5_wordsbf16 d i))) fun _ => k

/-- A step at each of the eight chunks in turn. -/
def loop8 (s : Fin 8 → BP F → BP F) (k : BP F) : BP F :=
  s 0 (s 1 (s 2 (s 3 (s 4 (s 5 (s 6 (s 7 k)))))))

/-- The body: the device's coordinate is read first. -/
def body : BP F :=
  .op .deviceId fun d =>
  loop8 (stCopy d) <|
  stBarrier d <|
  loop8 (stSendZ d) <|
  loop8 (fun i k => stComp d i (stSend d i k)) <|
  loop8 (stFwd d) <|
  loop8 (stRecv d) <|
  loop8 stDoneZ <|
  loop8 (stDone d) <|
  loop8 (stDoneF d) <|
  .ret ⟨⟩

universe u

/-- Two programs that make the same request and continue equally are equal. -/
theorem op_congr {α β : Type} {E : Type → Type u} {e e' : E β} {k k' : β → Prog E α} {p p' : Prog E α}
    (hp : p = .op e k) (hp' : p' = .op e' k') (h : e = e') (hk : ∀ x, k x = k' x) : p = p' := by
  subst h hp hp'; rw [funext hk]

set_option maxRecDepth 65536 in
/-- The printed body is the loops, request by request. -/
theorem body_eq : bodyAt0 (F := F) t0_0 = body := by
  change cc0_body (F := F) pM (Memref.isWhole_whole _) rM (Memref.isWhole_whole _) gM (Memref.isWhole_whole _) oM
    (Memref.isWhole_whole _) pqM (Memref.isWhole_whole _) rqM (Memref.isWhole_whole _) zsM (Memref.isWhole_whole _)
    zrM (Memref.isWhole_whole _) cc0_scratch4 cc0_scratch5 cc0_scratch6 = body
  rw [cc0_body_eq_skeleton]
  repeat
    apply op_congr
    case hp => rfl
    case hp' => rfl
    case h => rfl
    intro d
  rfl

end Cert.KernelIdeal.Gen

end
-- ==== Proof.Mesh.lean ====
module

public import proofs.«01_k».proof.Proof.Prog

@[expose] public section

/-! # The mesh and the pieces of the result

Device `4x + 2y + z` has quarter `2x + y` of the result's rows, which it computes together with the device of the
other `z`. The four neighbours of a device, which rows each slice of the body covers, and who computes which rows. -/

noncomputable section

namespace Cert.KernelIdeal.Gen

open Idealize.ShloMosaic Idealize.ShloMosaic.TcCoe Idealize.SL.Sem

/-- The quarter of the rows a device computes. -/
def qd (c : Dev nD) : Fin 4 := ⟨c.val / 2, by have := c.isLt; unfold nD at this; omega⟩
/-- Which of the two devices of the quarter it is. -/
def zd (c : Dev nD) : Fin 2 := ⟨c.val % 2, Nat.mod_lt _ (by decide)⟩
/-- The other half. -/
def fl (h : Fin 2) : Fin 2 := 1 - h

theorem zP_zP : ∀ c : Dev nD, zP (zP c) = c := by decide +kernel
theorem xP_xP : ∀ c : Dev nD, xP (xP c) = c := by decide +kernel
theorem yP_yP : ∀ c : Dev nD, yP (yP c) = c := by decide +kernel
theorem dP_dP : ∀ c : Dev nD, dP (dP c) = c := by decide +kernel
theorem dP_zP : ∀ c : Dev nD, dP (zP c) = zP (dP c) := by decide +kernel
theorem qd_zP : ∀ c : Dev nD, qd (zP c) = qd c := by decide +kernel
theorem zd_zP : ∀ c : Dev nD, zd (zP c) = fl (zd c) := by decide +kernel
theorem zd_dP : ∀ c : Dev nD, zd (dP c) = zd c := by decide +kernel
theorem fl_fl : ∀ h : Fin 2, fl (fl h) = h := by decide
theorem qds_nodup : ∀ c : Dev nD, [qd c, qd (xP c), qd (yP c), qd (dP c)].Nodup := by decide +kernel
theorem qds_univ : ∀ c : Dev nD, (Finset.univ : Finset (Fin 4)) = [qd c, qd (xP c), qd (yP c), qd (dP c)].toFinset := by
  decide +kernel

/-- The device whose computation of a half chunk (quarter `k`, half `h`) device `c` comes to hold. -/
def owner (c : Dev nD) (k : Fin 4) (h : Fin 2) : Dev nD :=
  if k = qd c then c else if k = qd (xP c) then xP c else if k = qd (yP c) then yP c
  else if h = zd c then dP c else zP (dP c)

theorem owner_self : ∀ (c : Dev nD) (h : Fin 2), owner c (qd c) h = c := by decide +kernel
theorem owner_xP : ∀ (c : Dev nD) (h : Fin 2), owner (xP c) (qd c) h = c := by decide +kernel
theorem owner_yP : ∀ (c : Dev nD) (h : Fin 2), owner (yP c) (qd c) h = c := by decide +kernel
theorem owner_dP : ∀ c : Dev nD, owner (dP c) (qd c) (zd c) = c := by decide +kernel
theorem owner_zP : ∀ c : Dev nD, owner (zP c) (qd (dP c)) (zd c) = owner c (qd (dP c)) (zd c) := by decide +kernel
theorem qd_owner : ∀ (c : Dev nD) (k : Fin 4) (h : Fin 2), qd (owner c k h) = k := by decide +kernel

/-! ## Offsets of the slices -/

theorem off1_eq : ∀ (c : Dev nD) (i : Fin 8), k0_off1 c (cw i) = ![0, 512 * (qd c).val + 64 * i.val, 0] := by decide +kernel
theorem off2_eq : ∀ (c : Dev nD) (i : Fin 8), k0_off2 c (cw i) = ![512 * (qd c).val + 64 * i.val, 0] := by decide +kernel
theorem off3_eq : ∀ (c : Dev nD) (i : Fin 8), k0_off3 c (cw i) = ![512 * (qd c).val + 64 * i.val, 0] := by decide +kernel
theorem off4_eq : ∀ (c : Dev nD) (i : Fin 8),
    k0_off4 c (cw i) = ![512 * (qd c).val + 64 * i.val + 32 * (zd c).val, 0] := by decide +kernel
theorem off5_eq : ∀ (c : Dev nD) (i : Fin 8),
    k0_off5 c (cw i) = ![512 * (qd (dP c)).val + 64 * i.val + 32 * (zd c).val, 0] := by decide +kernel
theorem off6y_eq : ∀ (c : Dev nD) (i : Fin 8),
    k0_off6 c (BitVec.ofNat 32 (1 + (0 : Fin 2).val)) (cw i) = ![512 * (qd (yP c)).val + 64 * i.val, 0] := by decide +kernel
theorem off6x_eq : ∀ (c : Dev nD) (i : Fin 8),
    k0_off6 c (BitVec.ofNat 32 (1 + (1 : Fin 2).val)) (cw i) = ![512 * (qd (xP c)).val + 64 * i.val, 0] := by decide +kernel
theorem off7_eq : ∀ (c : Dev nD) (i : Fin 8),
    k0_off7 c (cw i) = ![512 * (qd (dP c)).val + 64 * i.val + 32 * (fl (zd c)).val, 0] := by decide +kernel

/-! ## Row sets of the result -/

theorem Qs_inb (k : Fin 4) (i : Fin 8) : ∀ a, (![512 * k.val + 64 * i.val, 0] : Fin 2 → Nat) a + S64x2048.size a ≤ S2048x2048.size a := by
  revert k i; decide
theorem Hs_inb (k : Fin 4) (i : Fin 8) (h : Fin 2) :
    ∀ a, (![512 * k.val + 64 * i.val + 32 * h.val, 0] : Fin 2 → Nat) a + S32x2048.size a ≤ S2048x2048.size a := by
  revert k i h; decide

/-- The rows of chunk `i` of quarter `k`. -/
def Qs (k : Fin 4) (i : Fin 8) : Finset S2048x2048.Idx :=
  (Rect.unit (s := S2048x2048) ![512 * k.val + 64 * i.val, 0] S64x2048.size (Qs_inb k i)).set
/-- Half `h` of them. -/
def Hs (k : Fin 4) (i : Fin 8) (h : Fin 2) : Finset S2048x2048.Idx :=
  (Rect.unit (s := S2048x2048) ![512 * k.val + 64 * i.val + 32 * h.val, 0] S32x2048.size (Hs_inb k i h)).set

theorem mem_Qs {k : Fin 4} {i : Fin 8} {j : S2048x2048.Idx} :
    j ∈ Qs k i ↔ 512 * k.val + 64 * i.val ≤ (j 0).val ∧ (j 0).val < 512 * k.val + 64 * i.val + 64 := by
  unfold Qs
  rw [Rect.mem_set_unit]
  constructor
  · intro h; exact h 0
  · intro h a
    fin_cases a
    · exact h
    · exact ⟨Nat.zero_le _, by have := (j 1).isLt; exact this⟩
theorem mem_Hs {k : Fin 4} {i : Fin 8} {h : Fin 2} {j : S2048x2048.Idx} :
    j ∈ Hs k i h ↔ 512 * k.val + 64 * i.val + 32 * h.val ≤ (j 0).val
      ∧ (j 0).val < 512 * k.val + 64 * i.val + 32 * h.val + 32 := by
  unfold Hs
  rw [Rect.mem_set_unit]
  constructor
  · intro h; exact h 0
  · intro h a
    fin_cases a
    · exact h
    · exact ⟨Nat.zero_le _, by have := (j 1).isLt; exact this⟩

theorem Hs_union (k : Fin 4) (i : Fin 8) (h : Fin 2) : Hs k i h ∪ Hs k i (fl h) = Qs k i := by
  ext j
  rw [Finset.mem_union, mem_Hs, mem_Hs, mem_Qs]
  fin_cases h <;> simp only [fl, Fin.val_zero, Fin.val_one, Fin.mk_one, Fin.zero_eta, sub_zero, sub_self] <;> omega
theorem Hs_disjoint (k : Fin 4) (i : Fin 8) (h : Fin 2) : Disjoint (Hs k i h) (Hs k i (fl h)) := by
  rw [Finset.disjoint_left]
  intro j h1 h2
  rw [mem_Hs] at h1 h2
  fin_cases h <;> simp only [fl, Fin.val_zero, Fin.val_one, Fin.mk_one, Fin.zero_eta, sub_zero, sub_self] at h1 h2 <;> omega

theorem Qs_disjoint (a b : Fin 4 × Fin 8) (h : a ≠ b) : Disjoint (Qs a.1 a.2) (Qs b.1 b.2) := by
  rw [Finset.disjoint_left]
  intro j h1 h2
  rw [mem_Qs] at h1 h2
  apply h
  have := a.2.isLt; have := b.2.isLt
  exact Prod.ext (Fin.ext (by omega)) (Fin.ext (by omega))
theorem Qs_cover : (Finset.univ : Finset (Fin 4 × Fin 8)).biUnion (fun a => Qs a.1 a.2) = Finset.univ := by
  ext j
  simp only [Finset.mem_biUnion, Finset.mem_univ, true_and, iff_true]
  have hj : (j 0).val < 2048 := (j 0).isLt
  refine ⟨(⟨(j 0).val / 512, by omega⟩, ⟨(j 0).val % 512 / 64, by omega⟩), mem_Qs.mpr ?_⟩
  show 512 * ((j 0).val / 512) + 64 * ((j 0).val % 512 / 64) ≤ (j 0).val
    ∧ (j 0).val < 512 * ((j 0).val / 512) + 64 * ((j 0).val % 512 / 64) + 64
  omega

/-! ## The slices of the result as row sets -/

theorem set_oC (c : Dev nD) (i : Fin 8) : (oC c i).view.set = Qs (qd c) i :=
  (Memref.set_slice_unit_eq_of_eq oM _ _ (Qs_inb (qd c) i) (fun _ => rfl) (off2_eq c i)).trans (View.set_slice_whole _ _)
theorem set_oC3 (c : Dev nD) (i : Fin 8) :
    ((View.whole cc0_stg1_0).slice (Rect.unit (s := S2048x2048) (k0_off3 c (cw i)) S64x2048.size (k0_off3_inb c i))).set = Qs (qd c) i :=
  (Memref.set_slice_unit_eq_of_eq oM _ (fun _ => rfl) (Qs_inb (qd c) i) (fun _ => rfl) (off3_eq c i)).trans (View.set_slice_whole _ _)
theorem set_oH (c : Dev nD) (i : Fin 8) : (oH c i).view.set = Hs (qd c) i (zd c) :=
  (Memref.set_slice_unit_eq_of_eq oM _ _ (Hs_inb (qd c) i (zd c)) (fun _ => rfl) (off4_eq c i)).trans (View.set_slice_whole _ _)
theorem set_oD (c : Dev nD) (i : Fin 8) : (oD c i).view.set = Hs (qd (dP c)) i (zd c) :=
  (Memref.set_slice_unit_eq_of_eq oM _ _ (Hs_inb (qd (dP c)) i (zd c)) (fun _ => rfl) (off5_eq c i)).trans (View.set_slice_whole _ _)

end Cert.KernelIdeal.Gen

end
-- ==== Proof.Sched.lean ====
module

public import proofs.«01_k».proof.Proof.Mesh
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Ring
public import Idealize.ShloMosaic.Lib.Ring.Trips
public import Idealize.ShloMosaic.Lib.Tactic

@[expose] public section

/-! # The protocol: cells, what is paid into each, and at which contents

Every device has one barrier cell, paid once by each of its four neighbours, and 96 transfer cells
`(k, i)`, each paid once: `k = 0, 1` the local copies of partials and residuals, `k = 2 … 6` the sends of channels
`0 … 4` and `k = 7 … 11` the receipts of those channels, for each chunk `i`.

Channel 0 brings the rounded partials of the `z` neighbour, channels 1 and 2 the finished chunk of the `x` and `y`
neighbours, channel 3 half of the diagonal neighbour's and channel 4 the other half, forwarded by the `z` neighbour.

A neighbour's barrier unit brings the rows this device writes there, at contents not chosen. A receipt brings its rows
at the sender's values, a send the share of the source lent to it. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the staging cells' and the protocol's. -/
abbrev UU : Type := UR sig nD τ × URounds (GSem nD τ sig) (Fin 4)

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

/-! ## Contents -/

/-- A buffer that reads as `w` through the view `v`. -/
def put {κ : Kind} {sp : Space} {s : Shape} {e : EltTy} (v : View sig κ sp s e) (w : s.Idx → Elt F e) : v.ty.Contents (Elt F) :=
  v.write (Elt F) (fun _ => default) w Finset.univ

theorem read_put {κ : Kind} {sp : Space} {s : Shape} {e : EltTy} (v : View sig κ sp s e) (w : s.Idx → Elt F e) :
    v.read (Elt F) (put v w) = w := View.read_write_univ _ _

theorem eqOn_of_read {κ : Kind} {sp : Space} {s : Shape} {e : EltTy} (v : View sig κ sp s e) {f g : v.ty.Contents (Elt F)}
    (h : v.read (Elt F) f = v.read (Elt F) g) : ∀ j ∈ v.set, f j = g j := by
  intro j hj
  obtain ⟨x, -, rfl⟩ := Finset.mem_map.mp hj
  have := congrFun h x
  rw [View.read_apply, View.read_apply] at this
  exact cast_inj _ |>.mp this

/-- The three arrays each device starts from: partials, residuals and the staged gamma. -/
structure Args (F : FTy → Type) where
  P : Dev nD → S1x2048x2048.Idx → Elt F .f32
  R : Dev nD → S2048x2048.Idx → Elt F .f32
  G : Dev nD → S1x2048.Idx → Elt F .f32

variable (A : Args F)

/-- The partials of chunk `i` of device `c`. -/
def pqv (c : Dev nD) (i : Fin 8) : S64x2048.Idx → Elt F .f32 := (pC c i).view.read (Elt F) (A.P c)
/-- The residuals of it. -/
def rqv (c : Dev nD) (i : Fin 8) : S64x2048.Idx → Elt F .f32 := (rC c i).view.read (Elt F) (A.R c)
/-- Gamma, as loaded. -/
def gv (c : Dev nD) : S1x2048.Idx → Elt F .f32 :=
  (gM.access (Rect.unit (s := S1x2048) ![0, 0] S1x2048.size inb_S1x2048_S1x2048_0_0)).read (Elt F) (A.G c)
/-- The rounded partials of chunk `i`, as stored. -/
def zv (c : Dev nD) (i : Fin 8) : S1x64x2048.Idx → Elt F .bf16 := k0_pay1 (pqv A c i)
/-- The finished chunk `i` of device `c`. -/
def ov (c : Dev nD) (i : Fin 8) : S64x2048.Idx → Elt F .bf16 :=
  k0_pay12 (pqv A c i) (zv A (zP c) i) (rqv A c i) (gv A c)

/-- The slot of chunk `i` in the outgoing and incoming buffers of rounded partials. -/
abbrev zsA (i : Fin 8) := (zsM.access (Rect.unit (s := S8x64x2048) ![i.val, 0, 0] S1x64x2048.size (slot_inb i)))
abbrev zrA (i : Fin 8) := (zrM.access (Rect.unit (s := S8x64x2048) ![i.val, 0, 0] S1x64x2048.size (slot_inb i)))

def PQ (c : Dev nD) (i : Fin 8) : S512x2048.Idx → Elt F .f32 := put (pqC i).view (pqv A c i)
def RQ (c : Dev nD) (i : Fin 8) : S512x2048.Idx → Elt F .f32 := put (rqC i).view (rqv A c i)
def ZS (c : Dev nD) (i : Fin 8) : S8x64x2048.Idx → Elt F .bf16 := put (zsA i) (zv A c i)
def ZR (c : Dev nD) (i : Fin 8) : S8x64x2048.Idx → Elt F .bf16 := put (zrA i) (zv A (zP c) i)

/-- The half, chunk and place of a row, and the result device `c` ends with: every row at what its owner computed. -/
def outV (c : Dev nD) : S2048x2048.Idx → Elt F .bf16 := fun j =>
  ov A (owner c ⟨(j 0).val / 512, by have : (j 0).val < 2048 := (j 0).isLt; omega⟩ ⟨(j 0).val / 32 % 2, by omega⟩)
    ⟨(j 0).val % 512 / 64, by omega⟩
    (Fin.cons ⟨(j 0).val % 64, Nat.mod_lt _ (by decide)⟩ (Fin.cons (j 1) fun a => a.elim0))

/-- Whose row it is decides what the result holds there. -/
theorem outV_congr {c c' : Dev nD} {k : Fin 4} {i : Fin 8} {j : S2048x2048.Idx} (h : Fin 2) (hj : j ∈ Hs k i h)
    (ho : owner c k h = owner c' k h) : outV A c j = outV A c' j := by
  rw [mem_Hs] at hj
  have hk : (⟨(j 0).val / 512, by have : (j 0).val < 2048 := (j 0).isLt; omega⟩ : Fin 4) = k := Fin.ext (by
    show (j 0).val / 512 = k.val; have := i.isLt; have := h.isLt; omega)
  have hh : (⟨(j 0).val / 32 % 2, by omega⟩ : Fin 2) = h := Fin.ext (by
    show (j 0).val / 32 % 2 = h.val; have := i.isLt; have := h.isLt; omega)
  unfold outV
  rw [hk, hh, ho]

theorem mem_Qs_half {k : Fin 4} {i : Fin 8} {j : S2048x2048.Idx} (hj : j ∈ Qs k i) : ∃ h, j ∈ Hs k i h := by
  rw [← Hs_union k i 0, Finset.mem_union] at hj
  exact hj.elim (fun h => ⟨_, h⟩) fun h => ⟨_, h⟩

theorem outV_xP (c : Dev nD) (i : Fin 8) : ∀ j ∈ Qs (qd c) i, outV A c j = outV A (xP c) j := fun j hj => by
  obtain ⟨h, hj⟩ := mem_Qs_half hj
  exact outV_congr A h hj (by rw [owner_self, owner_xP])
theorem outV_yP (c : Dev nD) (i : Fin 8) : ∀ j ∈ Qs (qd c) i, outV A c j = outV A (yP c) j := fun j hj => by
  obtain ⟨h, hj⟩ := mem_Qs_half hj
  exact outV_congr A h hj (by rw [owner_self, owner_yP])
theorem outV_dP (c : Dev nD) (i : Fin 8) : ∀ j ∈ Hs (qd c) i (zd c), outV A c j = outV A (dP c) j := fun j hj =>
  outV_congr A _ hj (by rw [owner_self, owner_dP])
theorem outV_zP (c : Dev nD) (i : Fin 8) : ∀ j ∈ Hs (qd (dP c)) i (zd c), outV A c j = outV A (zP c) j := fun j hj =>
  outV_congr A _ hj (owner_zP c).symm

/-- On its own rows the result reads as the finished chunk. -/
theorem outV_own (c : Dev nD) (i : Fin 8) {off : Fin 2 → Nat} (hoff : off = ![512 * (qd c).val + 64 * i.val, 0])
    (inb : ∀ a, off a + S64x2048.size a ≤ S2048x2048.size a) :
    (oM.access (Rect.unit (s := S2048x2048) off S64x2048.size inb)).read (Elt F) (outV A c) = ov A c i := by
  subst hoff
  funext x
  have hx : (x 0).val < 64 := (x 0).isLt
  have hi := i.isLt
  have h0 : (((oM.access (Rect.unit (s := S2048x2048) ![512 * (qd c).val + 64 * i.val, 0] S64x2048.size inb)).emb x : S2048x2048.Idx) 0).val
      = 512 * (qd c).val + 64 * i.val + (x 0).val := by
    rw [show (512 * (qd c).val + 64 * i.val + (x 0).val) = 512 * (qd c).val + 64 * i.val + 1 * (x 0).val by omega]; rfl
  have h1 : (((oM.access (Rect.unit (s := S2048x2048) ![512 * (qd c).val + 64 * i.val, 0] S64x2048.size inb)).emb x : S2048x2048.Idx) 1)
      = x 1 := Fin.ext (by
        rw [show (x 1).val = 0 + 1 * (x 1).val by omega]; rfl)
  show outV A c ((oM.access (Rect.unit (s := S2048x2048) ![512 * (qd c).val + 64 * i.val, 0] S64x2048.size inb)).emb x) = ov A c i x
  generalize ((oM.access (Rect.unit (s := S2048x2048) ![512 * (qd c).val + 64 * i.val, 0] S64x2048.size inb)).emb x : S2048x2048.Idx) = j at h0 h1
  unfold outV
  have hk : (⟨(j 0).val / 512, by have : (j 0).val < 2048 := (j 0).isLt; omega⟩ : Fin 4) = qd c := Fin.ext (by
    show (j 0).val / 512 = (qd c).val; omega)
  have hc : (⟨(j 0).val % 512 / 64, by omega⟩ : Fin 8) = i := Fin.ext (by
    show (j 0).val % 512 / 64 = i.val; omega)
  rw [hk, owner_self, hc]
  refine congrArg _ (funext fun a => ?_)
  fin_cases a
  · exact Fin.ext (by show (j 0).val % 64 = (x 0).val; omega)
  · exact h1

/-! ## Cells -/

/-- Transfer semaphore `i` of row `k`. -/
def csem (k : Fin 12) (i : Fin 8) : DmaSem sig := ⟨2 + 8 * k.val + i.val, by
  have : sig.nDmaSem = 98 := by decide
  have := k.isLt; have := i.isLt; omega⟩
/-- The row and chunk of a transfer semaphore. -/
def ckOf (s : DmaSem sig) : Fin 12 := ⟨(s.val - 2) / 8 % 12, Nat.mod_lt _ (by decide)⟩
def ciOf (s : DmaSem sig) : Fin 8 := ⟨(s.val - 2) % 8, Nat.mod_lt _ (by decide)⟩

theorem ckOf_csem : ∀ k i, ckOf (csem k i) = k := by decide +kernel
theorem ciOf_csem : ∀ k i, ciOf (csem k i) = i := by decide +kernel
theorem cpS_eq : ∀ (k : Fin 2) (i : Fin 8), cpS k i = csem ⟨k.val, by omega⟩ i := by decide +kernel
theorem sdS_eq : ∀ (k : Fin 5) (i : Fin 8), sdS k i = csem ⟨2 + k.val, by omega⟩ i := by decide +kernel
theorem rvS_eq : ∀ (k : Fin 5) (i : Fin 8), rvS k i = csem ⟨7 + k.val, by omega⟩ i := by decide +kernel

abbrev barCell (c : Dev nD) : GSem nD τ sig := ((c : Thread nD τ), .reg barS)
abbrev cell (c : Dev nD) (k : Fin 12) (i : Fin 8) : GSem nD τ sig := ((c : Thread nD τ), .dma (csem k i))

/-! ## Points-tos -/

/-- A slice of device `c`, at share `q` and contents `f`. -/
abbrev pts {sp : Space} {s : Shape} {e : EltTy} (M : Memref sig .tc sp s e) (c : Dev nD) (q : PosShare TreeShare)
    (f : M.view.ty.Contents (Elt F)) : sProp 𝕄 :=
  M.view.loc (c : Thread nD τ) ↦[M.view.set]{q} f
/-- Rows of device `c`'s result. -/
abbrev orows (c : Dev nD) (S : Finset S2048x2048.Idx) (q : PosShare TreeShare) (f : S2048x2048.Idx → Elt F .bf16) : sProp 𝕄 :=
  (oM : Memref sig .tc .vmem S2048x2048 .bf16).view.loc (c : Thread nD τ) ↦[S]{q} f
/-- The three shares a finished chunk is lent at. -/
abbrev sh (k : Fin 3) : PosShare TreeShare := Ring.shares3 fullShare k

/-! ## Payloads -/

/-- What neighbour `k` of device `c` pays into `c`'s barrier cell: its rows that `c` writes, and that their
    receipts' cells are open. -/
def barPay (c : Dev nD) : Fin 4 → sProp 𝕄
  | 0 => bigSep Finset.univ fun i : Fin 8 =>
      iprop(((∃ f, pts (zrC i) (zP c) fullShare f) ∗ reached ER (cell (zP c) 7 i) 0)
        ∗ ((∃ f, orows (zP c) (Hs (qd (dP c)) i (zd c)) fullShare f) ∗ reached ER (cell (zP c) 11 i) 0))
  | 1 => bigSep Finset.univ fun i : Fin 8 =>
      iprop((∃ f, orows (xP c) (Qs (qd c) i) fullShare f) ∗ reached ER (cell (xP c) 8 i) 0)
  | 2 => bigSep Finset.univ fun i : Fin 8 =>
      iprop((∃ f, orows (yP c) (Qs (qd c) i) fullShare f) ∗ reached ER (cell (yP c) 9 i) 0)
  | _ => bigSep Finset.univ fun i : Fin 8 =>
      iprop((∃ f, orows (dP c) (Hs (qd c) i (zd c)) fullShare f) ∗ reached ER (cell (dP c) 10 i) 0)

/-- What the transfer on cell `(k, i)` of device `c` pays into it. -/
def dmaPay (c : Dev nD) (k : Fin 12) (i : Fin 8) : sProp 𝕄 :=
  match k with
  | 0 => iprop(pts (pqC i) c fullShare (PQ A c i) ∗ pts (pC c i) c fullShare (A.P c))
  | 1 => iprop(pts (rqC i) c fullShare (RQ A c i) ∗ pts (rC c i) c fullShare (A.R c))
  | 2 => pts (zsC i) c fullShare (ZS A c i)
  | 3 => orows c (Qs (qd c) i) (sh 0) (outV A c)
  | 4 => orows c (Qs (qd c) i) (sh 1) (outV A c)
  | 5 => orows c (Hs (qd c) i (zd c)) (sh 2) (outV A c)
  | 6 => orows c (Hs (qd (dP c)) i (zd c)) fullShare (outV A c)
  | 7 => pts (zrC i) c fullShare (ZR A c i)
  | 8 => orows c (Qs (qd (xP c)) i) fullShare (outV A c)
  | 9 => orows c (Qs (qd (yP c)) i) fullShare (outV A c)
  | 10 => orows c (Hs (qd (dP c)) i (zd c)) fullShare (outV A c)
  | _ => orows c (Hs (qd (dP c)) i (fl (zd c))) fullShare (outV A c)

/-- The amounts: a float32 chunk, a bfloat16 chunk and half a bfloat16 chunk. -/
def NF : ℕ := (pqC 0).view.dmaCredit
def NB : ℕ := (zrC 0).view.dmaCredit
def NH : ℕ := (oH 0 0).view.dmaCredit
def amt (k : Fin 12) : ℕ :=
  if k.val < 2 then NF else if k = 5 ∨ k = 6 ∨ k = 10 ∨ k = 11 then NH else NB

theorem NF_pos : 0 < NF := View.dmaCredit_pos _ (by decide)
theorem NB_pos : 0 < NB := View.dmaCredit_pos _ (by decide)
theorem NH_pos : 0 < NH := View.dmaCredit_pos _ (by decide)
theorem amt_pos (k : Fin 12) : 0 < amt k := by
  unfold amt; split
  · exact NF_pos
  split
  · exact NH_pos
  · exact NB_pos

def duties0 : SemLoc sig → Finset (Fin 4)
  | .reg _ => Finset.univ
  | .dma s => if 2 ≤ s.val then {0} else ∅
def amount0 : SemLoc sig → ℕ
  | .reg _ => 1
  | .dma s => amt (ckOf s)
def payload0 (c : Dev nD) : SemLoc sig → Fin 4 → sProp 𝕄
  | .reg _, d => barPay c d
  | .dma s, _ => dmaPay A c (ckOf s) (ciOf s)

/-- One round: every duty is paid once. -/
def sched : Rounds.Schedule (GSem nD τ sig) (Fin 4) 𝕄 where
  duties g r := if r = 0 ∧ g.1.2 = .tc then duties0 g.2 else ∅
  unitless _ := False
  amount g _ _ := amount0 g.2
  payload g _ d := payload0 A g.1.1 g.2 d
  amount_pos g _ _ _ := by
    match h : g.2 with
    | .reg _ => exact Nat.one_pos
    | .dma _ => exact amt_pos _

instance sched_payload_storable (g : GSem nD τ sig) (r : ℕ) (d : Fin 4) :
    BI.Storable (upEmb : UEmb _ 𝕄) ((sched A).payload g r d) := by
  obtain ⟨⟨c, p⟩, s⟩ := g
  show BI.Storable upEmb (payload0 A c s d)
  match s with
  | .reg _ =>
    show BI.Storable upEmb (barPay c d)
    unfold barPay
    split <;> infer_instance
  | .dma s =>
    show BI.Storable upEmb (dmaPay A c (ckOf s) (ciOf s))
    unfold dmaPay
    split <;> infer_instance

theorem duties_bar (c : Dev nD) : (sched A).duties (barCell c) 0 = Finset.univ := by
  show (if (0 : ℕ) = 0 ∧ (c : Thread nD τ).2 = .tc then duties0 (.reg barS) else ∅) = _
  rw [if_pos ⟨rfl, rfl⟩]; rfl
theorem csem_ge (k : Fin 12) (i : Fin 8) : 2 ≤ (csem k i).val := by
  show 2 ≤ 2 + 8 * k.val + i.val; omega
theorem duties_dma (c : Dev nD) (k : Fin 12) (i : Fin 8) : (sched A).duties (cell c k i) 0 = {0} :=
by
  show (if (0 : ℕ) = 0 ∧ (c : Thread nD τ).2 = .tc then (if 2 ≤ (csem k i).val then ({0} : Finset (Fin 4)) else ∅) else ∅) = _
  rw [if_pos ⟨rfl, rfl⟩, if_pos (csem_ge k i)]
theorem duties_later (g : GSem nD τ sig) : ∀ r, 1 ≤ r → (sched A).duties g r = ∅ :=
  fun r hr => if_neg fun h => by omega
theorem amount_dma (c : Dev nD) (k : Fin 12) (i : Fin 8) (d : Fin 4) : (sched A).amount (cell c k i) 0 d = amt k := by
  show amt (ckOf (csem k i)) = amt k; rw [ckOf_csem]
theorem payload_dma (c : Dev nD) (k : Fin 12) (i : Fin 8) (d : Fin 4) : (sched A).payload (cell c k i) 0 d = dmaPay A c k i := by
  show dmaPay A c (ckOf (csem k i)) (ciOf (csem k i)) = _; rw [ckOf_csem, ciOf_csem]
theorem mem_bar (c : Dev nD) (d : Fin 4) : d ∈ (sched A).duties (barCell c) 0 := by rw [duties_bar]; exact Finset.mem_univ _
theorem mem_dma (c : Dev nD) (k : Fin 12) (i : Fin 8) : (0 : Fin 4) ∈ (sched A).duties (cell c k i) 0 := by
  rw [duties_dma]; exact Finset.mem_singleton_self _

theorem expect_bar (c : Dev nD) : (sched A).expect (barCell c) 0 = 4 := by
  unfold Schedule.expect Schedule.amountOf; rw [duties_bar]
  exact (Finset.sum_congr rfl fun _ _ => rfl : _ = ∑ _d : Fin 4, 1)
theorem expect_dma (c : Dev nD) (k : Fin 12) (i : Fin 8) : (sched A).expect (cell c k i) 0 = amt k := by
  unfold Schedule.expect Schedule.amountOf; rw [duties_dma, Finset.sum_singleton, amount_dma]

theorem rest_dma (c : Dev nD) (k : Fin 12) (i : Fin 8) :
    bigSep ((sched A).duties (cell c k i) 0 \ ∅) (fun d => (sched A).payload (cell c k i) 0 d) = dmaPay A c k i := by
  rw [Finset.sdiff_empty, duties_dma, bigSep_singleton, payload_dma]
theorem rest_bar (c : Dev nD) :
    bigSep ((sched A).duties (barCell c) 0 \ ∅) (fun d => (sched A).payload (barCell c) 0 d)
      = (iprop(barPay c 0 ∗ barPay c 1 ∗ barPay c 2 ∗ barPay c 3) : sProp 𝕄) := by
  rw [Finset.sdiff_empty, duties_bar]
  exact bigSep_univ_eq_bigSepL [(0 : Fin 4), 1, 2, 3] (by decide) (by decide) (fun d => (barPay c d : sProp 𝕄))

/-! ## What a device owes, and the levels of the waits -/

/-- The receipts of channel row `k` on device `n` still to be paid when chunks below `j` are done. -/
def chan (n : Dev nD) (k : Fin 12) (j : ℕ) : CellTallies nD τ sig Unit :=
  ∑ i ∈ Finset.univ.filter (fun i : Fin 8 => j ≤ i.val), tallyAt (cell n k i) () (amt k)

theorem chan_step (n : Dev nD) (k : Fin 12) (i : Fin 8) :
    chan n k i.val = chan n k (i.val + 1) + tallyAt (cell n k i) () (amt k) := by
  unfold chan
  have : (Finset.univ.filter fun i' : Fin 8 => i.val ≤ i'.val) = insert i (Finset.univ.filter fun i' : Fin 8 => i.val + 1 ≤ i'.val) := by
    ext i'
    simp only [Finset.mem_filter, Finset.mem_univ, true_and, Finset.mem_insert, Fin.ext_iff]
    omega
  rw [this, Finset.sum_insert (by simp), add_comm]
theorem chan_end (n : Dev nD) (k : Fin 12) : chan n k 8 = 0 := by
  unfold chan
  rw [Finset.filter_false_of_mem fun i _ => by have := i.isLt; omega, Finset.sum_empty]

/-- The rounded partials; the three sends of a finished chunk; the forwarded halves. -/
def OZ (c : Dev nD) (j : ℕ) : CellTallies nD τ sig Unit := chan (zP c) 7 j
def OS (c : Dev nD) (j : ℕ) : CellTallies nD τ sig Unit := chan (dP c) 10 j + chan (yP c) 9 j + chan (xP c) 8 j
def OF (c : Dev nD) (j : ℕ) : CellTallies nD τ sig Unit := chan (zP c) 11 j
/-- The four barrier units, the last neighbour's first. -/
def OB (c : Dev nD) : CellTallies nD τ sig Unit :=
  tallyAt (barCell (dP c)) () 1 + tallyAt (barCell (yP c)) () 1 + tallyAt (barCell (xP c)) () 1 + tallyAt (barCell (zP c)) () 1
/-- Everything, at launch. -/
def O₀ (c : Dev nD) : CellTallies nD τ sig Unit := OF c 0 + OS c 0 + OZ c 0 + OB c

def L (g : GSem nD τ sig) : Finset Unit := if g.1.2 = .tc then {()} else ∅
def lvk (k : Fin 12) : ℕ := if k.val < 7 then 0 else if k = 7 then 2 else if k = 11 then 4 else 3
def lv (g : GSem nD τ sig) (_ : Unit) : ℕ :=
  match g.2 with
  | .reg _ => 1
  | .dma s => if 2 ≤ s.val then lvk (ckOf s) else 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 12) (i : Fin 8) (u : Unit) : lv (cell c k i) u = lvk k := by
  show (if 2 ≤ (csem k i).val then lvk (ckOf (csem k i)) else 0) = _
  rw [if_pos (csem_ge k i), ckOf_csem]

/-- Everything owed is of a level above `b`. -/
def Above (b : ℕ) (O : CellTallies nD τ sig Unit) : Prop := ∀ g u, 0 < O g u → u ∈ L g ∧ b < lv g u

theorem Above.add {b : ℕ} {O O' : CellTallies nD τ sig Unit} (h : Above b O) (h' : Above b O') : Above b (O + O') := by
  intro g u hg
  rw [Pi.add_apply, Finsupp.add_apply] at hg
  rcases Nat.add_pos_iff_pos_or_pos.mp hg with hg | hg
  · exact h g u hg
  · exact h' g u hg
theorem Above.zero {b : ℕ} : Above b 0 := fun g u h => absurd h (Nat.lt_irrefl 0)
theorem Above.tally {b : ℕ} (c : Dev nD) (sm : SemLoc sig) (n : ℕ) (h : b < lv ((c : Thread nD τ), sm) ()) :
    Above b (tallyAt ((c : Thread nD τ), sm) () n) := by
  intro g u hg
  rw [tallyAt_apply] at hg
  split at hg
  · next e =>
    obtain ⟨rfl, rfl⟩ := e
    exact ⟨by rw [L_tc]; exact Finset.mem_singleton_self _, h⟩
  · exact absurd hg (Nat.lt_irrefl 0)
theorem Above.chan {b : ℕ} (n : Dev nD) (k : Fin 12) (j : ℕ) (h : b < lvk k) : Above b (chan n k j) := by
  unfold Gen.chan
  refine Finset.sum_induction _ (Above b) (fun _ _ => Above.add) Above.zero fun i _ => ?_
  exact Above.tally n _ _ (by rw [lv_cell]; exact h)
theorem Above.OZ {b : ℕ} (c : Dev nD) (j : ℕ) (h : b < 2) : Above b (OZ c j) := Above.chan _ _ _ h
theorem Above.OS {b : ℕ} (c : Dev nD) (j : ℕ) (h : b < 3) : Above b (OS c j) :=
  ((Above.chan _ _ _ h).add (Above.chan _ _ _ h)).add (Above.chan _ _ _ h)
theorem Above.OF {b : ℕ} (c : Dev nD) (j : ℕ) (h : b < 4) : Above b (OF c j) := Above.chan _ _ _ h
theorem Above.OB {b : ℕ} (c : Dev nD) (h : b < 1) : Above b (OB c) :=
  (((Above.tally _ _ _ h).add (Above.tally _ _ _ h)).add (Above.tally _ _ _ h)).add (Above.tally _ _ _ h)
theorem Above.O₀ {b : ℕ} (c : Dev nD) (h : b < 1) : Above b (O₀ c) :=
  (((Above.OF c 0 (by omega)).add (Above.OS c 0 (by omega))).add (Above.OZ c 0 (by omega))).add (Above.OB c h)

/-- A wait is allowed when everything owed is above the cell's level. -/
theorem mayWait (c : Dev nD) (sm : SemLoc sig) {O : CellTallies nD τ sig Unit}
    (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => (h g u hg).1)
    (fun p hp => by rw [Finset.mem_singleton.mp hp])
    (fun g u hg => (h g u hg).2)

end Cert.KernelIdeal.Gen

end
-- ==== Proof.Steps.lean ====
module

public import proofs.«01_k».proof.Proof.Sched

@[expose] public section

/-! # One step of each loop of the body

The three kinds of request that touch the protocol — a wait on an own transfer cell, a local copy, a send — each proved
once, then the step of every loop of the body at a symbolic chunk, and the rule for a loop over the eight chunks. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F)

abbrev 𝒱₀ : Variants := Variants.none

/-- A program run on device `c`. -/
abbrev WP (c : Dev nD) (p : BP F) (Q : PUnit → sProp 𝕄) : sProp 𝕄 :=
  wp frame (wpE (defs₀ (F := F)) 𝒱₀ (c : Thread nD τ) none) Set.univ p Q

/-! ## What every step may consult -/

/-- The invariants of all cells, that every barrier cell and the device's own cells are open, and the levels. -/
def ctx (κ : GSem nD τ sig → ℕ) (c : Dev nD) : sProp 𝕄 :=
  iprop((bigSep Finset.univ fun n : Dev nD => cellInv ER (sched A) (κ (barCell n)) (barCell n))
    ∗ (bigSep Finset.univ fun x : Dev nD × Fin 12 × Fin 8 => cellInv ER (sched A) (κ (cell x.1 x.2.1 x.2.2)) (cell x.1 x.2.1 x.2.2))
    ∗ (bigSep Finset.univ fun n : Dev nD => reached ER (barCell n) 0)
    ∗ (bigSep Finset.univ fun x : Fin 12 × Fin 8 => reached ER (cell c x.1 x.2) 0)
    ∗ levAts L lv)

instance ctx_persistent (κ : GSem nD τ sig → ℕ) (c : Dev nD) : BI.Persistent (ctx A κ c) := by unfold ctx; infer_instance

section Ctx
variable (κ : GSem nD τ sig → ℕ) (c : Dev nD)

theorem ctx_bar (n : Dev nD) : ctx A κ c ⊢ cellInv ER (sched A) (κ (barCell n)) (barCell n) := by
  unfold ctx; iintro ⟨H, -⟩
  iapply (show (bigSep Finset.univ fun n : Dev nD => (cellInv ER (sched A) (κ (barCell n)) (barCell n) : sProp 𝕄)) ⊢ _ from
    bigSep_elim (Finset.mem_univ n)) $$ H
theorem ctx_cell (n : Dev nD) (k : Fin 12) (i : Fin 8) : ctx A κ c ⊢ cellInv ER (sched A) (κ (cell n k i)) (cell n k i) := by
  unfold ctx; iintro ⟨-, H, -⟩
  iapply (show (bigSep Finset.univ fun x : Dev nD × Fin 12 × Fin 8 =>
    (cellInv ER (sched A) (κ (cell x.1 x.2.1 x.2.2)) (cell x.1 x.2.1 x.2.2) : sProp 𝕄)) ⊢ cellInv ER (sched A) (κ (cell n k i)) (cell n k i) from
    bigSep_elim (Finset.mem_univ (n, k, i))) $$ H
theorem ctx_barR (n : Dev nD) : ctx A κ c ⊢ reached ER (barCell n) 0 := by
  unfold ctx; iintro ⟨-, -, H, -⟩
  iapply (show (bigSep Finset.univ fun n : Dev nD => (reached ER (barCell n) 0 : sProp 𝕄)) ⊢ _ from bigSep_elim (Finset.mem_univ n)) $$ H
theorem ctx_cellR (k : Fin 12) (i : Fin 8) : ctx A κ c ⊢ reached ER (cell c k i) 0 := by
  unfold ctx; iintro ⟨-, -, -, H, -⟩
  iapply (show (bigSep Finset.univ fun x : Fin 12 × Fin 8 => (reached ER (cell c x.1 x.2) 0 : sProp 𝕄)) ⊢ reached ER (cell c k i) 0 from
    bigSep_elim (Finset.mem_univ (k, i))) $$ H
theorem ctx_lev : ctx A κ c ⊢ levAts L lv := by
  unfold ctx; iintro ⟨-, -, -, -, H⟩; iexact H
end Ctx

/-- The right to pay the one duty of a transfer cell; the position before and after it; the credit it is waited for with;
    what is owed. -/
abbrev tok (n : Dev nD) (k : Fin 12) (i : Fin 8) : sProp 𝕄 := dutyTok ER (cell n k i) 0 0
abbrev at0 (c : Dev nD) (k : Fin 12) (i : Fin 8) : sProp 𝕄 := atPos ER (cell c k i) 0 ∅ 0
abbrev at1 (c : Dev nD) (k : Fin 12) (i : Fin 8) : sProp 𝕄 := atPos ER (cell c k i) (0 + 1) ∅ 0
abbrev crd (c : Dev nD) (k : Fin 12) (i : Fin 8) : sProp 𝕄 := cred (tallyAt (cell c k i) () (amt k))
abbrev ow (c : Dev nD) (O : CellTallies nD τ sig Unit) : sProp 𝕄 := iprop(∃ W, owes (c : Thread nD τ) O W)

/-! ## The three kinds of request -/

theorem wait_step (κ : GSem nD τ sig → ℕ) (c : Dev nD) (k : Fin 12) (i : Fin 8) {s : DmaSem sig} (hs : s = csem k i)
    {sp sp' : Space} {sh sh' : Shape} {e e' : EltTy} {src : Memref sig .tc sp sh e} {dst : Memref sig .tc sp' sh' e'}
    {h1 : src.view.WordExact} {h2 : dst.view.WordExact} (hN : dst.view.dmaCredit = amt k)
    {O : CellTallies nD τ sig Unit} (hO : Above (lvk k) O)
    {P : sProp 𝕄} (hP : dmaPay A c k i ⊢ P) {p : PUnit → BP F} {Q : PUnit → sProp 𝕄} :
    iprop(ctx A κ c ∗ crd c k i ∗ ow c O ∗ at0 c k i)
      ⊢ iprop((ow c O ∗ at1 c k i ∗ P -∗ WP c (p ⟨⟩) Q) -∗ WP c (.op (.waitDma2 s src dst h1 h2) p) Q) := by
  subst hs
  iintro ⟨#Hc, Hcr, ⟨%W, HO⟩, Hat⟩ Hk
  iapply (Rounds.wp_wait_rest_token 𝒱₀ ER (sched A) (c : Thread nD τ) none (κ := κ (cell c k i))
      (wpE_waitDma2_eq 𝒱₀ (c : Thread nD τ) none Set.univ) (Set.mem_univ _) () (O := O) (W := W) (R := 0) (m := 0) (T := ∅)
      (by rw [Nat.zero_add, expect_dma]; exact hN)) $$ [Hcr HO Hat]
  · isplitr; · iapply (ctx_cell A κ c c k i); iexact Hc
    isplitl [Hcr]; · rw [hN]; iexact Hcr
    isplitl [HO]; · iexact HO
    isplitr
    · iapply (mayWait c (.dma (csem k i)) (by rw [lv_cell]; exact hO))
      iapply (ctx_lev A κ c); iexact Hc
    iexact Hat
  iintro ⟨HO, Hat, -, Hpay⟩
  iapply Hk
  isplitl [HO]; · iexists _; iexact HO
  isplitl [Hat]; · iexact Hat
  iapply ((Entails.of_eq (rest_dma A c k i)).trans hP) $$ Hpay

theorem copy_step (κ : GSem nD τ sig → ℕ) (c : Dev nD) (k : Fin 12) (i : Fin 8) {s : DmaSem sig} (hs : s = csem k i)
    {sp sp' : Space} {sh : Shape} {e : EltTy} {src : Memref sig .tc sp sh e} {dst : Memref sig .tc sp' sh e}
    {h1 : src.view.WordExact} {h2 : dst.view.WordExact} {h3 : DmaTarget.Typed (nD := nD) (τ := τ) (p := .tc) sp (.dma s) (.here dst)}
    (hN : dst.view.dmaCredit = amt k) {q : PosShare TreeShare} {fs : src.view.ty.Contents (Elt F)}
    (hpay : ∀ fd, iprop(pts dst c fullShare (dst.view.write (Elt F) fd (src.view.read (Elt F) fs) Finset.univ) ∗ pts src c q fs)
      ⊢ dmaPay A c k i) {p : PUnit → BP F} {Q : PUnit → sProp 𝕄} :
    iprop(ctx A κ c ∗ pts src c q fs ∗ (∃ fd, pts dst c fullShare fd) ∗ tok c k i)
      ⊢ iprop((crd c k i -∗ WP c (p ⟨⟩) Q) -∗ WP c (.op (.enqueueDma src (.here dst) (.dma s) h1 h2 h3) p) Q) := by
  subst hs
  iintro ⟨#Hc, Hs, ⟨%fd, Hd⟩, Ht⟩ Hk
  iapply (Rounds.wp_copy_pointsTo 𝒱₀ ER (sched A) (c : Thread nD τ) none (κ := κ (cell c k i)) (r := 0) (d := (0 : Fin 4))
      (q := q) (fs := fs) (fd := fd) (mem_dma A c k i) () (amt k) hN (amount_dma A c k i 0)
      (by rw [payload_dma]; exact hpay fd)) $$ [Hs Hd Ht]
  · isplitr; · iapply (ctx_cell A κ c c k i); iexact Hc
    isplitl [Hs]; · iexact Hs
    isplitl [Hd]; · iexact Hd
    isplitl [Ht]; · iexact Ht
    iapply (ctx_cellR A κ c k i); iexact Hc
  iexact Hk

theorem send_step (κ : GSem nD τ sig → ℕ) (c n : Dev nD) (k k' : Fin 12) (i : Fin 8) {s s' : DmaSem sig}
    (hs : s = csem k i) (hs' : s' = csem k' i)
    {sp sp' : Space} {sh : Shape} {e : EltTy} {src : Memref sig .tc sp sh e} {dst : Memref sig .tc sp' sh e}
    {hsc : dst.view.ref.isScScratch = false}
    {h1 : src.view.WordExact} {h2 : dst.view.WordExact}
    {h3 : DmaTarget.Typed (nD := nD) (τ := τ) sp (.dma s') (.remote (Dev.tc n) dst (.dma s) hsc)}
    (hk : amt k = amt k') (hN : dst.view.dmaCredit = amt k') {q : PosShare TreeShare} {fs : src.view.ty.Contents (Elt F)}
    (hpay : pts src c q fs ⊢ dmaPay A c k i)
    (hpay' : ∀ fd, pts dst n fullShare (dst.view.write (Elt F) fd (src.view.read (Elt F) fs) Finset.univ) ⊢ dmaPay A n k' i)
    (O : CellTallies nD τ sig Unit) {p : PUnit → BP F} {Q : PUnit → sProp 𝕄} :
    iprop(ctx A κ c ∗ pts src c q fs ∗ ((∃ fd, pts dst n fullShare fd) ∗ reached ER (cell n k' i) 0)
        ∗ ow c (O + tallyAt (cell n k' i) () (amt k')) ∗ tok c k i ∗ tok n k' i)
      ⊢ iprop((crd c k i ∗ ow c O -∗ WP c (p ⟨⟩) Q)
        -∗ WP c (.op (.enqueueDma src (.remote (Dev.tc n) dst (.dma s) hsc) (.dma s') h1 h2 h3) p) Q) := by
  subst hs hs'
  iintro ⟨#Hc, Hs, ⟨⟨%fd, Hd⟩, #Hr⟩, ⟨%W, HO⟩, Ht, Ht'⟩ Hk
  iapply (Rounds.wp_send_pointsTo 𝒱₀ ER (sched A) (c : Thread nD τ) none (c' := (n : Thread nD τ)) (κ₁ := κ (cell c k i))
      (κ₂ := κ (cell n k' i)) (r₁ := 0) (r₂ := 0) (d₁ := (0 : Fin 4)) (d₂ := (0 : Fin 4)) (q := q) (fs := fs) (fd := fd)
      (mem_dma A c k i) (mem_dma A n k' i) () () (amt k') hN ((amount_dma A c k i 0).trans hk) (amount_dma A n k' i 0) O rfl (W := W)
      (by rw [payload_dma]; exact hpay) (by rw [payload_dma]; exact hpay' fd)) $$ [Hs Hd HO Ht Ht']
  · isplitr; · iapply (ctx_cell A κ c c k i); iexact Hc
    isplitr; · iapply (ctx_cell A κ c n k' i); iexact Hc
    isplitl [Hs]; · iexact Hs
    isplitl [Hd]; · iexact Hd
    isplitl [HO]; · iexact HO
    isplitl [Ht]; · iexact Ht
    isplitr; · iapply (ctx_cellR A κ c k i); iexact Hc
    isplitl [Ht']; · iexact Ht'
    iexact Hr
  iintro ⟨Hcr, HO⟩
  iapply Hk
  isplitl [Hcr]; · unfold crd; rw [hk]; iexact Hcr
  iexists _; iexact HO

/-! ## A loop over the eight chunks -/

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

theorem loop_step (c : Dev nD) (X : sProp 𝕄) [BI.Persistent X] (st : Fin 8 → BP F → BP F) (I J : Fin 8 → sProp 𝕄) (C : ℕ → sProp 𝕄)
    (h : ∀ i p Q, iprop(X ∗ I i ∗ C i.val) ⊢ iprop((J i ∗ C (i.val + 1) -∗ WP c p Q) -∗ WP c (st i p) Q))
    (p : BP F) (Q : PUnit → sProp 𝕄) :
    iprop(X ∗ bigSep Finset.univ I ∗ C 0) ⊢ iprop((bigSep Finset.univ J ∗ C 8 -∗ WP c p Q) -∗ WP c (loop8 st p) Q) := by
  rw [bigSep_fin8, bigSep_fin8]
  have h' (i : Fin 8) (a b : ℕ) (ha : i.val = a) (hb : i.val + 1 = b) (p : BP F) :
      iprop(X ∗ I i ∗ C a) ⊢ iprop((J i ∗ C b -∗ WP c p Q) -∗ WP c (st i p) Q) := ha ▸ hb ▸ h i p Q
  unfold loop8
  iintro ⟨#HX, ⟨H0, H1, H2, H3, H4, H5, H6, H7⟩, HC⟩ Hk
  iapply (h' 0 0 1 rfl rfl _) $$ [H0 HC]
  · isplitr; · iexact HX
    isplitl [H0] <;> iassumption
  iintro ⟨J0, HC⟩
  iapply (h' 1 1 2 rfl rfl _) $$ [H1 HC]
  · isplitr; · iexact HX
    isplitl [H1] <;> iassumption
  iintro ⟨J1, HC⟩
  iapply (h' 2 2 3 rfl rfl _) $$ [H2 HC]
  · isplitr; · iexact HX
    isplitl [H2] <;> iassumption
  iintro ⟨J2, HC⟩
  iapply (h' 3 3 4 rfl rfl _) $$ [H3 HC]
  · isplitr; · iexact HX
    isplitl [H3] <;> iassumption
  iintro ⟨J3, HC⟩
  iapply (h' 4 4 5 rfl rfl _) $$ [H4 HC]
  · isplitr; · iexact HX
    isplitl [H4] <;> iassumption
  iintro ⟨J4, HC⟩
  iapply (h' 5 5 6 rfl rfl _) $$ [H5 HC]
  · isplitr; · iexact HX
    isplitl [H5] <;> iassumption
  iintro ⟨J5, HC⟩
  iapply (h' 6 6 7 rfl rfl _) $$ [H6 HC]
  · isplitr; · iexact HX
    isplitl [H6] <;> iassumption
  iintro ⟨J6, HC⟩
  iapply (h' 7 7 8 rfl rfl _) $$ [H7 HC]
  · isplitr; · iexact HX
    isplitl [H7] <;> iassumption
  iintro ⟨J7, HC⟩
  iapply Hk
  isplitr [HC]
  · isplitl [J0]; · iexact J0
    isplitl [J1]; · iexact J1
    isplitl [J2]; · iexact J2
    isplitl [J3]; · iexact J3
    isplitl [J4]; · iexact J4
    isplitl [J5]; · iexact J5
    isplitl [J6] <;> iassumption
  iexact HC

end Cert.KernelIdeal.Gen

end
-- ==== Proof.Phases.lean ====
module

public import proofs.«01_k».proof.Proof.Steps

@[expose] public section

/-! # The steps of the loops

Each loop's step at a symbolic chunk: what it takes for the chunk, what it gives back for it, and what is still owed
from one chunk to the next. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F)

/-! ## Slices and contents -/

theorem pts_oC (c n : Dev nD) (i : Fin 8) (q : PosShare TreeShare) (f : S2048x2048.Idx → Elt F .bf16) :
    (pts (oC c i) n q f : sProp 𝕄) = orows n (Qs (qd c) i) q f := congrArg (fun S => (orows n S q f : sProp 𝕄)) (set_oC c i)
theorem pts_oH (c n : Dev nD) (i : Fin 8) (q : PosShare TreeShare) (f : S2048x2048.Idx → Elt F .bf16) :
    (pts (oH c i) n q f : sProp 𝕄) = orows n (Hs (qd c) i (zd c)) q f := congrArg (fun S => (orows n S q f : sProp 𝕄)) (set_oH c i)
theorem pts_oD (c n : Dev nD) (i : Fin 8) (q : PosShare TreeShare) (f : S2048x2048.Idx → Elt F .bf16) :
    (pts (oD c i) n q f : sProp 𝕄) = orows n (Hs (qd (dP c)) i (zd c)) q f :=
  congrArg (fun S => (orows n S q f : sProp 𝕄)) (set_oD c i)

/-- What is written through a view that reads as `g` there is `g` on the view. -/
theorem write_eqOn {κ : Kind} {sp : Space} {s : Shape} {e : EltTy} (v : View sig κ sp s e) (fd g : v.ty.Contents (Elt F))
    {w : s.Idx → Elt F e} (h : w = v.read (Elt F) g) : ∀ j ∈ v.set, v.write (Elt F) fd w Finset.univ j = g j :=
  eqOn_of_read v (by rw [View.read_write_univ, h])

theorem pts_write {sp : Space} {s : Shape} {e : EltTy} (M : Memref sig .tc sp s e) (c : Dev nD) (q : PosShare TreeShare)
    (fd g : M.view.ty.Contents (Elt F)) {w : s.Idx → Elt F e} (h : w = M.view.read (Elt F) g) :
    (pts M c q (M.view.write (Elt F) fd w Finset.univ) : sProp 𝕄) = pts M c q g := pointsTo_congr (write_eqOn M.view fd g h)

theorem orows_congr (c : Dev nD) {S : Finset S2048x2048.Idx} (q : PosShare TreeShare) {f g : S2048x2048.Idx → Elt F .bf16}
    (h : ∀ j ∈ S, f j = g j) : (orows c S q f : sProp 𝕄) = orows c S q g := pointsTo_congr h

/-- The two halves of a chunk. -/
theorem orows_halves (c : Dev nD) (k : Fin 4) (i : Fin 8) (h : Fin 2) (q : PosShare TreeShare) (f : S2048x2048.Idx → Elt F .bf16) :
    (orows c (Qs k i) q f : sProp 𝕄) ⊣⊢ iprop(orows c (Hs k i h) q f ∗ orows c (Hs k i (fl h)) q f) := by
  rw [← Hs_union k i h]; exact pointsTo_union (Hs_disjoint k i h)

/-- A slot reads the same through its slice without the leading axis, in either buffer. -/
theorem zsC_read (i : Fin 8) (w : S1x64x2048.Idx → Elt F .bf16) :
    (zsC i).view.read (Elt F) (put (zsA i) w) = (zrC i).view.read (Elt F) (put (zrA i) w) := by
  funext x
  have h1 := congrFun (read_put (zsA i) w) (Shape.reshapeEquiv squeezes_S1x64x2048_S64x2048.numel_eq x)
  have h2 := congrFun (read_put (zrA i) w) (Shape.reshapeEquiv squeezes_S1x64x2048_S64x2048.numel_eq x)
  exact h1.trans h2.symm

theorem zs_set (i : Fin 8) : (zsA i).set = (zsC i).view.set := (View.set_reshape _ _).symm
theorem zr_set (i : Fin 8) : (zrA i).set = (zrC i).view.set := (View.set_reshape _ _).symm

/-! ## Local copies -/

def CopyI (c : Dev nD) (i : Fin 8) : sProp 𝕄 :=
  iprop((pts (pC c i) c fullShare (A.P c) ∗ (∃ f, pts (pqC i) c fullShare f) ∗ tok c 0 i)
    ∗ (pts (rC c i) c fullShare (A.R c) ∗ (∃ f, pts (rqC i) c fullShare f) ∗ tok c 1 i))
def CopyJ (c : Dev nD) (i : Fin 8) : sProp 𝕄 := iprop(crd c 0 i ∗ crd c 1 i)

theorem step_copy (κ : GSem nD τ sig → ℕ) (c : Dev nD) (i : Fin 8) (p : BP F) (Q : PUnit → sProp 𝕄) :
    iprop(ctx A κ c ∗ CopyI A c i ∗ emp) ⊢ iprop((CopyJ c i ∗ emp -∗ WP c p Q) -∗ WP c (stCopy c i p) Q) := by
  unfold CopyI CopyJ stCopy
  iintro ⟨#Hc, ⟨⟨Hs, Hd, Ht⟩, Hs', Hd', Ht'⟩, -⟩ Hk
  iapply (copy_step A κ c 0 i (cpS_eq 0 i) (src := pC c i) (dst := pqC i) (q := fullShare) (fs := A.P c) rfl ?_) $$ [Hs Hd Ht]
  · intro fd
    rw [pts_write (pqC i) c fullShare fd (PQ A c i) (w := (pC c i).view.read (Elt F) (A.P c)) (read_put _ _).symm]
    exact Entails.rfl
  · isplitr; · iexact Hc
    isplitl [Hs]; · iexact Hs
    isplitl [Hd] <;> iassumption
  iintro Hcr
  iapply (copy_step A κ c 1 i (cpS_eq 1 i) (src := rC c i) (dst := rqC i) (q := fullShare) (fs := A.R c) rfl ?_) $$ [Hs' Hd' Ht']
  · intro fd
    rw [pts_write (rqC i) c fullShare fd (RQ A c i) (w := (rC c i).view.read (Elt F) (A.R c)) (read_put _ _).symm]
    exact Entails.rfl
  · isplitr; · iexact Hc
    isplitl [Hs']; · iexact Hs'
    isplitl [Hd'] <;> iassumption
  iintro Hcr'
  iapply Hk
  isplitl [Hcr Hcr']
  · isplitl [Hcr] <;> iassumption
  iempintro

/-! ## The barrier -/

/-- The four tokens a device pays its neighbours' barrier cells with. -/
def BarT (c : Dev nD) : sProp 𝕄 :=
  iprop(dutyTok ER (barCell (zP c)) 0 (0 : Fin 4) ∗ dutyTok ER (barCell (xP c)) 0 (1 : Fin 4)
    ∗ dutyTok ER (barCell (yP c)) 0 (2 : Fin 4) ∗ dutyTok ER (barCell (dP c)) 0 (3 : Fin 4))

/-- Own rows the neighbours write, for chunk `i`. -/
def ZoneZ (c : Dev nD) (i : Fin 8) : sProp 𝕄 :=
  iprop((∃ f, pts (zrC i) c fullShare f) ∗ (∃ f, orows c (Hs (qd (dP c)) i (fl (zd c))) fullShare f))
def ZoneX (c : Dev nD) (i : Fin 8) : sProp 𝕄 := iprop(∃ f, orows c (Qs (qd (xP c)) i) fullShare f)
def ZoneY (c : Dev nD) (i : Fin 8) : sProp 𝕄 := iprop(∃ f, orows c (Qs (qd (yP c)) i) fullShare f)
def ZoneD (c : Dev nD) (i : Fin 8) : sProp 𝕄 := iprop(∃ f, orows c (Hs (qd (dP c)) i (zd c)) fullShare f)

theorem pay_z (κ : GSem nD τ sig → ℕ) (c : Dev nD) : iprop(ctx A κ c ∗ bigSep Finset.univ (ZoneZ c)) ⊢ (barPay (zP c) 0 : sProp 𝕄) := by
  unfold barPay
  rw [zP_zP, dP_zP, qd_zP, zd_zP]
  refine bigSep_with_persistent fun i _ => ?_
  unfold ZoneZ
  iintro ⟨#Hc, H, H'⟩
  isplitl [H]
  · isplitl [H]; · iexact H
    iapply (ctx_cellR A κ c 7 i); iexact Hc
  · isplitl [H']; · iexact H'
    iapply (ctx_cellR A κ c 11 i); iexact Hc
theorem pay_x (κ : GSem nD τ sig → ℕ) (c : Dev nD) : iprop(ctx A κ c ∗ bigSep Finset.univ (ZoneX c)) ⊢ (barPay (xP c) 1 : sProp 𝕄) := by
  unfold barPay
  rw [xP_xP]
  refine bigSep_with_persistent fun i _ => ?_
  unfold ZoneX
  iintro ⟨#Hc, H⟩
  isplitl [H]; · iexact H
  iapply (ctx_cellR A κ c 8 i); iexact Hc
theorem pay_y (κ : GSem nD τ sig → ℕ) (c : Dev nD) : iprop(ctx A κ c ∗ bigSep Finset.univ (ZoneY c)) ⊢ (barPay (yP c) 2 : sProp 𝕄) := by
  unfold barPay
  rw [yP_yP]
  refine bigSep_with_persistent fun i _ => ?_
  unfold ZoneY
  iintro ⟨#Hc, H⟩
  isplitl [H]; · iexact H
  iapply (ctx_cellR A κ c 9 i); iexact Hc
theorem pay_d (κ : GSem nD τ sig → ℕ) (c : Dev nD) : iprop(ctx A κ c ∗ bigSep Finset.univ (ZoneD c)) ⊢ (barPay (dP c) 3 : sProp 𝕄) := by
  unfold barPay
  rw [dP_dP, zd_dP]
  refine bigSep_with_persistent fun i _ => ?_
  unfold ZoneD
  iintro ⟨#Hc, H⟩
  isplitl [H]; · iexact H
  iapply (ctx_cellR A κ c 10 i); iexact Hc

theorem payload_bar (n : Dev nD) (k : Fin 4) : (sched A).payload (barCell n) 0 k = barPay n k := rfl

theorem signal_step (κ : GSem nD τ sig → ℕ) (c n : Dev nD) (k : Fin 4) (O : CellTallies nD τ sig Unit)
    {p : PUnit → BP F} {Q : PUnit → sProp 𝕄} :
    iprop(ctx A κ c ∗ ow c (O + tallyAt (barCell n) () 1) ∗ dutyTok ER (barCell n) 0 k ∗ barPay n k)
      ⊢ iprop((ow c O -∗ WP c (p ⟨⟩) Q) -∗ WP c (.op (.semSignal (n, .tc) barS (1#32).toInt) p) Q) := by
  change _ ⊢ iprop((ow c O -∗ WP c (p ⟨⟩) Q) -∗ WP c (.op (.semSignal (n : Thread nD τ) barS ((1 : ℕ) : ℤ)) p) Q)
  iintro ⟨#Hc, ⟨%W, HO⟩, Ht, Hpay⟩ Hk
  iapply (Rounds.wp_signal 𝒱₀ ER (sched A) (c : Thread nD τ) none (dst := (n : Thread nD τ)) (sem := barS) (r := 0) (d := k)
      (κ := κ (barCell n)) (mem_bar A n k) (k' := 1) rfl () O rfl (W := W)) $$ [HO Ht Hpay]
  · isplitr; · iapply (ctx_bar A κ c n); iexact Hc
    isplitl [HO]; · iexact HO
    isplitl [Ht]; · iexact Ht
    isplitl [Hpay]; · iapply (Entails.of_eq (payload_bar A n k).symm) $$ Hpay
    iapply (ctx_barR A κ c n); iexact Hc
  iintro HO
  iapply Hk; iexists _; iexact HO

theorem step_barrier (κ : GSem nD τ sig → ℕ) (c : Dev nD) (p : BP F) (Q : PUnit → sProp 𝕄) :
    iprop(ctx A κ c ∗ (bigSep Finset.univ (ZoneZ c) ∗ bigSep Finset.univ (ZoneX c) ∗ bigSep Finset.univ (ZoneY c) ∗ bigSep Finset.univ (ZoneD c))
        ∗ BarT c ∗ cred (tallyAt (barCell c) () 4) ∗ atPos ER (barCell c) 0 ∅ 0 ∗ ow c (O₀ c))
      ⊢ iprop((ow c (OF c 0 + OS c 0 + OZ c 0) ∗ atPos ER (barCell c) (0 + 1) ∅ 0
          ∗ (barPay c 0 ∗ barPay c 1 ∗ barPay c 2 ∗ barPay c 3) -∗ WP c p Q) -∗ WP c (stBarrier c p) Q) := by
  unfold BarT stBarrier O₀ OB
  rw [← add_assoc, ← add_assoc, ← add_assoc]
  iintro ⟨#Hc, ⟨HZ, HX, HY, HD⟩, ⟨Tz, Tx, Ty, Td⟩, Hcr, Hat, HO⟩ Hk
  iapply (signal_step A κ c (zP c) 0 _) $$ [HO Tz HZ]
  · isplitr; · iexact Hc
    isplitl [HO]; · iexact HO
    isplitl [Tz]; · iexact Tz
    iapply (pay_z A κ c); isplitr; · iexact Hc
    iexact HZ
  iintro HO
  iapply (signal_step A κ c (xP c) 1 _) $$ [HO Tx HX]
  · isplitr; · iexact Hc
    isplitl [HO]; · iexact HO
    isplitl [Tx]; · iexact Tx
    iapply (pay_x A κ c); isplitr; · iexact Hc
    iexact HX
  iintro HO
  iapply (signal_step A κ c (yP c) 2 _) $$ [HO Ty HY]
  · isplitr; · iexact Hc
    isplitl [HO]; · iexact HO
    isplitl [Ty]; · iexact Ty
    iapply (pay_y A κ c); isplitr; · iexact Hc
    iexact HY
  iintro HO
  iapply (signal_step A κ c (dP c) 3 _) $$ [HO Td HD]
  · isplitr; · iexact Hc
    isplitl [HO]; · iexact HO
    isplitl [Td]; · iexact Td
    iapply (pay_d A κ c); isplitr; · iexact Hc
    iexact HD
  iintro ⟨%W, HO⟩
  iapply (Rounds.wp_wait_rest_token 𝒱₀ ER (sched A) (c : Thread nD τ) none (κ := κ (barCell c))
      (wpE_semWait_eq 𝒱₀ (c : Thread nD τ) none Set.univ) (Set.mem_univ _) () (W := W) (R := 0) (m := 0) (T := ∅)
      (by rw [Nat.zero_add]; exact (expect_bar A c).symm)) $$ [Hcr HO Hat]
  · isplitr; · iapply (ctx_bar A κ c c); iexact Hc
    isplitl [Hcr]; · iexact Hcr
    isplitl [HO]; · iexact HO
    isplitr
    · iapply (mayWait c (.reg barS) (((Above.OF c 0 (b := 1) (by decide)).add (Above.OS c 0 (by decide))).add (Above.OZ c 0 (by decide))))
      iapply (ctx_lev A κ c); iexact Hc
    iexact Hat
  iintro ⟨HO, Hat, -, Hpay⟩
  iapply Hk
  isplitl [HO]; · iexists _; iexact HO
  isplitl [Hat]; · iexact Hat
  iapply (Entails.of_eq (rest_bar A c)) $$ Hpay

/-! ## Rounding the partials and sending them to the `z` neighbour -/

def SendZI (c : Dev nD) (i : Fin 8) : sProp 𝕄 :=
  iprop((crd c 0 i ∗ at0 c 0 i) ∗ (∃ f, pts (zsC i) c fullShare f) ∗ (tok c 2 i ∗ tok (zP c) 7 i)
    ∗ (∃ f, pts (zrC i) (zP c) fullShare f) ∗ reached ER (cell (zP c) 7 i) 0)
def SendZJ (c : Dev nD) (i : Fin 8) : sProp 𝕄 :=
  iprop((pts (pqC i) c fullShare (PQ A c i) ∗ pts (pC c i) c fullShare (A.P c)) ∗ at1 c 0 i ∗ crd c 2 i)

theorem pq_load (c : Dev nD) (i : Fin 8) :
    (pqM.access (Rect.unit (s := S512x2048) ![64 * i.val, 0] S64x2048.size (chunk_inb i))).read (Elt F) (PQ A c i) = pqv A c i :=
  read_put (pqC i).view (pqv A c i)
theorem rq_load (c : Dev nD) (i : Fin 8) :
    (rqM.access (Rect.unit (s := S512x2048) ![64 * i.val, 0] S64x2048.size (chunk_inb i))).read (Elt F) (RQ A c i) = rqv A c i :=
  read_put (rqC i).view (rqv A c i)

theorem zs_read (c : Dev nD) (i : Fin 8) : k0_pay1 (pqv A c i) = (zsA i).read (Elt F) (ZS A c i) :=
  (read_put (zsA i) (zv A c i)).symm
theorem zr_load (c : Dev nD) (i : Fin 8) : (zrA i).read (Elt F) (ZR A c i) = zv A (zP c) i := read_put (zrA i) (zv A (zP c) i)

theorem step_sendZ (κ : GSem nD τ sig → ℕ) (c : Dev nD) (i : Fin 8) (p : BP F) (Q : PUnit → sProp 𝕄) :
    iprop(ctx A κ c ∗ SendZI c i ∗ ow c (OF c 0 + OS c 0 + OZ c i.val))
      ⊢ iprop((SendZJ A c i ∗ ow c (OF c 0 + OS c 0 + OZ c (i.val + 1)) -∗ WP c p Q) -∗ WP c (stSendZ c i p) Q) := by
  unfold SendZI SendZJ stSendZ
  iintro ⟨#Hc, ⟨⟨Hcr, Hat⟩, ⟨%f, Hzs⟩, ⟨Ht, Ht'⟩, Hz⟩, HO⟩ Hk
  iapply (wait_step A κ c 0 i (cpS_eq 0 i) (src := pC c i) (dst := pqC i) rfl
    (((Above.OF c 0 (by decide)).add (Above.OS c 0 (by decide))).add (Above.OZ c i.val (by decide)))
    (P := iprop(pts (pqC i) c fullShare (PQ A c i) ∗ pts (pC c i) c fullShare (A.P c))) Entails.rfl) $$ [Hcr HO Hat]
  · isplitr; · iexact Hc
    isplitl [Hcr]; · iexact Hcr
    isplitl [HO] <;> iassumption
  iintro ⟨HO, Hat, Hpq, Hp⟩
  iapply (wp_load_rect 𝒱₀ (c : Thread nD τ) none Set.univ (m := pqM)
    (r := Rect.unit (s := S512x2048) ![64 * i.val, 0] S64x2048.size (chunk_inb i)) (S := (pqC i).view.set)
    (f := PQ A c i) (Finset.Subset.refl _)) $$ Hpq
  iintro Hpq
  rw [pq_load]
  iapply (wp_load_rect 𝒱₀ (c : Thread nD τ) none Set.univ (m := zsM)
    (r := Rect.unit (s := S8x64x2048) ![i.val, 0, 0] S1x64x2048.size (slot_inb i)) (S := (zsC i).view.set)
    (f := f) (zs_set i).subset) $$ Hzs
  iintro Hzs
  iapply (wp_store 𝒱₀ (c : Thread nD τ) none Set.univ (m := zsM)
    (r := Rect.unit (s := S8x64x2048) ![i.val, 0, 0] S1x64x2048.size (slot_inb i)) (S := (zsC i).view.set)
    (f := f) (zs_set i).subset) $$ Hzs
  iintro Hzs
  ihave Hzs := (Entails.of_eq (pointsTo_congr (write_eqOn (zsA i) f (ZS A c i) (w := k0_pay1 (pqv A c i)) (zs_read A c i))
    : ((zsA i).loc (c : Thread nD τ) ↦[(zsA i).set]{fullShare} (zsA i).write (Elt F) f (k0_pay1 (pqv A c i)) Finset.univ : sProp 𝕄)
      = (zsA i).loc (c : Thread nD τ) ↦[(zsA i).set]{fullShare} ZS A c i)) $$ [Hzs]
  · rw [zs_set]; iexact Hzs
  iapply (send_step A κ c (zP c) 2 7 i (sdS_eq 0 i) (rvS_eq 0 i) (src := zsC i) (dst := zrC i) rfl rfl (q := fullShare)
    (fs := ZS A c i) Entails.rfl ?_ (OF c 0 + OS c 0 + OZ c (i.val + 1))) $$ [Hzs Ht Ht' Hz HO]
  · intro fd
    rw [pts_write (zrC i) (zP c) fullShare fd (ZR A (zP c) i) (w := (zsC i).view.read (Elt F) (ZS A c i))
      (by unfold ZS ZR; rw [zP_zP]; exact zsC_read i _)]
    exact Entails.rfl
  · isplitr; · iexact Hc
    isplitl [Hzs]; · rw [zs_set]; iexact Hzs
    isplitl [Hz]; · iexact Hz
    isplitl [HO]
    · rw [add_assoc (OF c 0 + OS c 0)]
      unfold OZ; rw [chan_step]; iexact HO
    isplitl [Ht] <;> iassumption
  iintro ⟨Hcr, HO⟩
  iapply Hk
  isplitr [HO]
  · isplitl [Hpq Hp]
    · isplitl [Hpq] <;> iassumption
    isplitl [Hat] <;> iassumption
  iexact HO

end Cert.KernelIdeal.Gen

end
-- ==== Proof.Phases2.lean ====
module

public import proofs.«01_k».proof.Proof.Phases

@[expose] public section

/-! # The steps of the later loops

From the receipt of the other partials to the last waits. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F)

/-! ## Computing a chunk and sending it to three neighbours -/

/-- The staged gamma. -/
abbrev gam (c : Dev nD) : sProp 𝕄 := pts gM c fullShare (A.G c)

def SendTok (c : Dev nD) (i : Fin 8) : sProp 𝕄 :=
  iprop((tok c 3 i ∗ tok (xP c) 8 i) ∗ (tok c 4 i ∗ tok (yP c) 9 i) ∗ (tok c 5 i ∗ tok (dP c) 10 i))
def SendZone (c : Dev nD) (i : Fin 8) : sProp 𝕄 :=
  iprop(((∃ f, orows (xP c) (Qs (qd c) i) fullShare f) ∗ reached ER (cell (xP c) 8 i) 0)
    ∗ ((∃ f, orows (yP c) (Qs (qd c) i) fullShare f) ∗ reached ER (cell (yP c) 9 i) 0)
    ∗ ((∃ f, orows (dP c) (Hs (qd c) i (zd c)) fullShare f) ∗ reached ER (cell (dP c) 10 i) 0))

def CompI (c : Dev nD) (i : Fin 8) : sProp 𝕄 :=
  iprop(((crd c 7 i ∗ at0 c 7 i) ∗ (crd c 1 i ∗ at0 c 1 i)) ∗ pts (pqC i) c fullShare (PQ A c i)
    ∗ (∃ f, orows c (Qs (qd c) i) fullShare f) ∗ SendTok c i ∗ SendZone c i)
def CompJ (c : Dev nD) (i : Fin 8) : sProp 𝕄 :=
  iprop((at1 c 7 i ∗ at1 c 1 i) ∗ pts (pqC i) c fullShare (PQ A c i) ∗ (pts (rqC i) c fullShare (RQ A c i) ∗ pts (rC c i) c fullShare (A.R c))
    ∗ pts (zrC i) c fullShare (ZR A c i) ∗ (crd c 3 i ∗ crd c 4 i ∗ crd c 5 i) ∗ orows c (Hs (qd c) i (fl (zd c))) (sh 2) (outV A c))

theorem g_load (c : Dev nD) : (gM.access (Rect.unit (s := S1x2048) ![0, 0] S1x2048.size inb_S1x2048_S1x2048_0_0)).read (Elt F) (A.G c) = gv A c := rfl
theorem ov_read (c : Dev nD) (i : Fin 8) : k0_pay12 (pqv A c i) (zv A (zP c) i) (rqv A c i) (gv A c)
    = (oM.access (Rect.unit (s := S2048x2048) (k0_off3 c (cw i)) S64x2048.size (k0_off3_inb c i))).read (Elt F) (outV A c) :=
  (outV_own A c i (off3_eq c i) _).symm

theorem o_stored (c : Dev nD) (i : Fin 8) (f : S2048x2048.Idx → Elt F .bf16) :
    (orows c (Qs (qd c) i) fullShare ((oM.access (Rect.unit (s := S2048x2048) (k0_off3 c (cw i)) S64x2048.size (k0_off3_inb c i))).write (Elt F) f
        (k0_pay12 (pqv A c i) (zv A (zP c) i) (rqv A c i) (gv A c)) Finset.univ) : sProp 𝕄)
      = orows c (Qs (qd c) i) fullShare (outV A c) :=
  orows_congr c fullShare fun j hj =>
    write_eqOn (oM.access (Rect.unit (s := S2048x2048) (k0_off3 c (cw i)) S64x2048.size (k0_off3_inb c i))) f (outV A c) (ov_read A c i) j
      ((set_oC3 c i).superset hj)

theorem ow_of_eq {c : Dev nD} {O O' : CellTallies nD τ sig Unit} (h : O = O') : (ow c O : sProp 𝕄) ⊢ ow c O' := Entails.of_eq (by rw [h])

theorem step_send (κ : GSem nD τ sig → ℕ) (c : Dev nD) (i : Fin 8) (p : BP F) (Q : PUnit → sProp 𝕄) :
    iprop(ctx A κ c ∗ orows c (Qs (qd c) i) fullShare (outV A c) ∗ SendTok c i ∗ SendZone c i ∗ ow c (OF c 0 + OS c i.val))
      ⊢ iprop((crd c 3 i ∗ crd c 4 i ∗ crd c 5 i ∗ orows c (Hs (qd c) i (fl (zd c))) (sh 2) (outV A c) ∗ ow c (OF c 0 + OS c (i.val + 1))
          -∗ WP c p Q) -∗ WP c (stSend c i p) Q) := by
  unfold SendTok SendZone
  iintro ⟨#Hc, Ho, ⟨⟨T3, T8⟩, ⟨T4, T9⟩, T5, T10⟩, ⟨HX, HY, HD⟩, HO⟩ Hk
  ihave Ho := (Ring.pointsTo_thirds fullShare _).1 $$ Ho
  icases Ho with ⟨Ho0, Ho1, Ho2⟩
  ihave Ho2 := (orows_halves c (qd c) i (zd c) (sh 2) (outV A c)).1 $$ Ho2
  icases Ho2 with ⟨Ho2, Ho3⟩
  unfold stSend
  iapply (send_step A κ c (xP c) 3 8 i (sdS_eq 1 i) (rvS_eq 1 i) (src := oC c i) (dst := oC c i) rfl rfl (q := sh 0)
    (fs := outV A c) (Entails.of_eq (pts_oC c c i _ _)) ?_
    (OF c 0 + (chan (dP c) 10 i.val + chan (yP c) 9 i.val + chan (xP c) 8 (i.val + 1)))) $$ [Ho0 HX T3 T8 HO]
  · intro fd
    rw [pts_write (oC c i) (xP c) fullShare fd (outV A c) rfl, pts_oC, orows_congr (xP c) fullShare (outV_xP A c i)]
    show _ ⊢ orows (xP c) (Qs (qd (xP (xP c))) i) fullShare (outV A (xP c))
    rw [xP_xP]
  · isplitr; · iexact Hc
    isplitl [Ho0]; · iapply (Entails.of_eq (pts_oC c c i _ _).symm) $$ Ho0
    isplitl [HX]; · simp only [pts_oC]; iexact HX
    isplitl [HO]
    · iapply (ow_of_eq ?_) $$ HO
      unfold OS; rw [chan_step (xP c)]; ac_rfl
    isplitl [T3] <;> iassumption
  iintro ⟨Hc3, HO⟩
  iapply (send_step A κ c (yP c) 4 9 i (sdS_eq 2 i) (rvS_eq 2 i) (src := oC c i) (dst := oC c i) rfl rfl (q := sh 1)
    (fs := outV A c) (Entails.of_eq (pts_oC c c i _ _)) ?_
    (OF c 0 + (chan (dP c) 10 i.val + chan (yP c) 9 (i.val + 1) + chan (xP c) 8 (i.val + 1)))) $$ [Ho1 HY T4 T9 HO]
  · intro fd
    rw [pts_write (oC c i) (yP c) fullShare fd (outV A c) rfl, pts_oC, orows_congr (yP c) fullShare (outV_yP A c i)]
    show _ ⊢ orows (yP c) (Qs (qd (yP (yP c))) i) fullShare (outV A (yP c))
    rw [yP_yP]
  · isplitr; · iexact Hc
    isplitl [Ho1]; · iapply (Entails.of_eq (pts_oC c c i _ _).symm) $$ Ho1
    isplitl [HY]; · simp only [pts_oC]; iexact HY
    isplitl [HO]
    · iapply (ow_of_eq ?_) $$ HO
      rw [chan_step (yP c)]; ac_rfl
    isplitl [T4] <;> iassumption
  iintro ⟨Hc4, HO⟩
  iapply (send_step A κ c (dP c) 5 10 i (sdS_eq 3 i) (rvS_eq 3 i) (src := oH c i) (dst := oH c i) rfl rfl (q := sh 2)
    (fs := outV A c) (Entails.of_eq (pts_oH c c i _ _)) ?_ (OF c 0 + OS c (i.val + 1))) $$ [Ho2 HD T5 T10 HO]
  · intro fd
    rw [pts_write (oH c i) (dP c) fullShare fd (outV A c) rfl, pts_oH, orows_congr (dP c) fullShare (outV_dP A c i)]
    show _ ⊢ orows (dP c) (Hs (qd (dP (dP c))) i (zd (dP c))) fullShare (outV A (dP c))
    rw [dP_dP, zd_dP]
  · isplitr; · iexact Hc
    isplitl [Ho2]; · iapply (Entails.of_eq (pts_oH c c i _ _).symm) $$ Ho2
    isplitl [HD]; · simp only [pts_oH]; iexact HD
    isplitl [HO]
    · iapply (ow_of_eq ?_) $$ HO
      unfold OS; rw [chan_step (dP c)]; ac_rfl
    isplitl [T5] <;> iassumption
  iintro ⟨Hc5, HO⟩
  iapply Hk
  isplitl [Hc3]; · iexact Hc3
  isplitl [Hc4]; · iexact Hc4
  isplitl [Hc5]; · iexact Hc5
  isplitl [Ho3] <;> iassumption

theorem step_comp (κ : GSem nD τ sig → ℕ) (c : Dev nD) (i : Fin 8) (p : BP F) (Q : PUnit → sProp 𝕄) :
    iprop(ctx A κ c ∗ CompI A c i ∗ (gam A c ∗ ow c (OF c 0 + OS c i.val)))
      ⊢ iprop((CompJ A c i ∗ (gam A c ∗ ow c (OF c 0 + OS c (i.val + 1))) -∗ WP c p Q) -∗ WP c (stComp c i (stSend c i p)) Q) := by
  unfold CompI CompJ stComp
  iintro ⟨#Hc, ⟨⟨⟨Hcr7, Hat7⟩, Hcr1, Hat1⟩, Hpq, ⟨%f, Ho⟩, HT, HZ⟩, Hg, HO⟩ Hk
  iapply (wait_step A κ c 7 i (rvS_eq 0 i) (src := zsC i) (dst := zrC i) rfl
    ((Above.OF c 0 (by decide)).add (Above.OS c i.val (by decide))) (P := pts (zrC i) c fullShare (ZR A c i)) Entails.rfl) $$ [Hcr7 HO Hat7]
  · isplitr; · iexact Hc
    isplitl [Hcr7]; · iexact Hcr7
    isplitl [HO] <;> iassumption
  iintro ⟨HO, Hat7, Hzr⟩
  iapply (wait_step A κ c 1 i (cpS_eq 1 i) (src := rC c i) (dst := rqC i) rfl
    ((Above.OF c 0 (by decide)).add (Above.OS c i.val (by decide)))
    (P := iprop(pts (rqC i) c fullShare (RQ A c i) ∗ pts (rC c i) c fullShare (A.R c))) Entails.rfl) $$ [Hcr1 HO Hat1]
  · isplitr; · iexact Hc
    isplitl [Hcr1]; · iexact Hcr1
    isplitl [HO] <;> iassumption
  iintro ⟨HO, Hat1, Hrq, Hr⟩
  iapply (wp_load_rect 𝒱₀ (c : Thread nD τ) none Set.univ (m := pqM)
    (r := Rect.unit (s := S512x2048) ![64 * i.val, 0] S64x2048.size (chunk_inb i)) (S := (pqC i).view.set)
    (f := PQ A c i) (Finset.Subset.refl _)) $$ Hpq
  iintro Hpq
  rw [pq_load]
  iapply (wp_load_rect 𝒱₀ (c : Thread nD τ) none Set.univ (m := zrM)
    (r := Rect.unit (s := S8x64x2048) ![i.val, 0, 0] S1x64x2048.size (slot_inb i)) (S := (zrC i).view.set)
    (f := ZR A c i) (zr_set i).subset) $$ Hzr
  iintro Hzr
  rw [zr_load]
  iapply (wp_load_rect 𝒱₀ (c : Thread nD τ) none Set.univ (m := rqM)
    (r := Rect.unit (s := S512x2048) ![64 * i.val, 0] S64x2048.size (chunk_inb i)) (S := (rqC i).view.set)
    (f := RQ A c i) (Finset.Subset.refl _)) $$ Hrq
  iintro Hrq
  rw [rq_load]
  iapply (wp_load_rect 𝒱₀ (c : Thread nD τ) none Set.univ (m := gM)
    (r := Rect.unit (s := S1x2048) ![0, 0] S1x2048.size inb_S1x2048_S1x2048_0_0) (S := gM.view.set)
    (f := A.G c) (View.set_slice_subset _ _)) $$ Hg
  iintro Hg
  rw [g_load]
  iapply (wp_load_rect 𝒱₀ (c : Thread nD τ) none Set.univ (m := oM)
    (r := Rect.unit (s := S2048x2048) (k0_off3 c (cw i)) S64x2048.size (k0_off3_inb c i)) (S := Qs (qd c) i)
    (f := f) (set_oC3 c i).subset) $$ Ho
  iintro Ho
  iapply (wp_store 𝒱₀ (c : Thread nD τ) none Set.univ (m := oM)
    (r := Rect.unit (s := S2048x2048) (k0_off3 c (cw i)) S64x2048.size (k0_off3_inb c i)) (S := Qs (qd c) i)
    (f := f) (set_oC3 c i).subset) $$ Ho
  iintro Ho
  ihave Ho := (Entails.of_eq (o_stored A c i f)) $$ Ho
  iapply (step_send A κ c i) $$ [Ho HT HZ HO]
  · isplitr; · iexact Hc
    isplitl [Ho]; · iexact Ho
    isplitl [HT]; · iexact HT
    isplitl [HZ] <;> iassumption
  iintro ⟨Hc3, Hc4, Hc5, Ho3, HO⟩
  iapply Hk
  isplitr [Hg HO]
  · isplitl [Hat7 Hat1]; · isplitl [Hat7] <;> iassumption
    isplitl [Hpq]; · iexact Hpq
    isplitl [Hrq Hr]; · isplitl [Hrq] <;> iassumption
    isplitl [Hzr]; · iexact Hzr
    isplitl [Hc3 Hc4 Hc5]
    · isplitl [Hc3]; · iexact Hc3
      isplitl [Hc4] <;> iassumption
    iexact Ho3
  isplitl [Hg] <;> iassumption

/-! ## Forwarding -/

def FwdI (c : Dev nD) (i : Fin 8) : sProp 𝕄 :=
  iprop((crd c 10 i ∗ at0 c 10 i) ∗ (tok c 6 i ∗ tok (zP c) 11 i)
    ∗ ((∃ f, orows (zP c) (Hs (qd (dP c)) i (zd c)) fullShare f) ∗ reached ER (cell (zP c) 11 i) 0))
def FwdJ (c : Dev nD) (i : Fin 8) : sProp 𝕄 := iprop(at1 c 10 i ∗ crd c 6 i)

theorem step_fwd (κ : GSem nD τ sig → ℕ) (c : Dev nD) (i : Fin 8) (p : BP F) (Q : PUnit → sProp 𝕄) :
    iprop(ctx A κ c ∗ FwdI c i ∗ ow c (OF c i.val))
      ⊢ iprop((FwdJ c i ∗ ow c (OF c (i.val + 1)) -∗ WP c p Q) -∗ WP c (stFwd c i p) Q) := by
  unfold FwdI FwdJ stFwd
  iintro ⟨#Hc, ⟨⟨Hcr, Hat⟩, ⟨T6, T11⟩, HF⟩, HO⟩ Hk
  iapply (wait_step A κ c 10 i (rvS_eq 3 i) (src := oD c i) (dst := oD c i) rfl
    (Above.OF c i.val (by decide)) (P := orows c (Hs (qd (dP c)) i (zd c)) fullShare (outV A c)) Entails.rfl) $$ [Hcr HO Hat]
  · isplitr; · iexact Hc
    isplitl [Hcr]; · iexact Hcr
    isplitl [HO] <;> iassumption
  iintro ⟨HO, Hat, Ho⟩
  iapply (send_step A κ c (zP c) 6 11 i (sdS_eq 4 i) (rvS_eq 4 i) (src := oD c i) (dst := oD c i) rfl rfl (q := fullShare)
    (fs := outV A c) (Entails.of_eq (pts_oD c c i _ _)) ?_ (OF c (i.val + 1))) $$ [Ho HF T6 T11 HO]
  · intro fd
    rw [pts_write (oD c i) (zP c) fullShare fd (outV A c) rfl, pts_oD, orows_congr (zP c) fullShare (outV_zP A c i)]
    show _ ⊢ orows (zP c) (Hs (qd (dP (zP c))) i (fl (zd (zP c)))) fullShare (outV A (zP c))
    rw [dP_zP, qd_zP, zd_zP, fl_fl]
  · isplitr; · iexact Hc
    isplitl [Ho]; · iapply (Entails.of_eq (pts_oD c c i _ _).symm) $$ Ho
    isplitl [HF]; · simp only [pts_oD]; iexact HF
    isplitl [HO]
    · iapply (ow_of_eq ?_) $$ HO
      unfold OF; rw [chan_step (zP c)]
    isplitl [T6] <;> iassumption
  iintro ⟨Hcr, HO⟩
  iapply Hk
  isplitl [Hat Hcr]
  · isplitl [Hat] <;> iassumption
  iexact HO

/-! ## The waits at the end -/

def RecvI (c : Dev nD) (i : Fin 8) : sProp 𝕄 :=
  iprop((crd c 8 i ∗ at0 c 8 i) ∗ (crd c 9 i ∗ at0 c 9 i) ∗ (crd c 11 i ∗ at0 c 11 i))
def RecvJ (c : Dev nD) (i : Fin 8) : sProp 𝕄 :=
  iprop((at1 c 8 i ∗ orows c (Qs (qd (xP c)) i) fullShare (outV A c)) ∗ (at1 c 9 i ∗ orows c (Qs (qd (yP c)) i) fullShare (outV A c))
    ∗ (at1 c 11 i ∗ orows c (Hs (qd (dP c)) i (fl (zd c))) fullShare (outV A c)))

theorem step_recv (κ : GSem nD τ sig → ℕ) (c : Dev nD) (i : Fin 8) (p : BP F) (Q : PUnit → sProp 𝕄) :
    iprop(ctx A κ c ∗ RecvI c i ∗ ow c 0) ⊢ iprop((RecvJ A c i ∗ ow c 0 -∗ WP c p Q) -∗ WP c (stRecv c i p) Q) := by
  unfold RecvI RecvJ stRecv
  iintro ⟨#Hc, ⟨⟨C8, A8⟩, ⟨C9, A9⟩, C11, A11⟩, HO⟩ Hk
  iapply (wait_step A κ c 8 i (rvS_eq 1 i) (src := oN c 1 i) (dst := oN c 1 i) rfl Above.zero
    (P := orows c (Qs (qd (xP c)) i) fullShare (outV A c)) Entails.rfl) $$ [C8 HO A8]
  · isplitr; · iexact Hc
    isplitl [C8]; · iexact C8
    isplitl [HO] <;> iassumption
  iintro ⟨HO, A8, P8⟩
  iapply (wait_step A κ c 9 i (rvS_eq 2 i) (src := oN c 0 i) (dst := oN c 0 i) rfl Above.zero
    (P := orows c (Qs (qd (yP c)) i) fullShare (outV A c)) Entails.rfl) $$ [C9 HO A9]
  · isplitr; · iexact Hc
    isplitl [C9]; · iexact C9
    isplitl [HO] <;> iassumption
  iintro ⟨HO, A9, P9⟩
  iapply (wait_step A κ c 11 i (rvS_eq 4 i) (src := oF c i) (dst := oF c i) rfl Above.zero
    (P := orows c (Hs (qd (dP c)) i (fl (zd c))) fullShare (outV A c)) Entails.rfl) $$ [C11 HO A11]
  · isplitr; · iexact Hc
    isplitl [C11]; · iexact C11
    isplitl [HO] <;> iassumption
  iintro ⟨HO, A11, P11⟩
  iapply Hk
  isplitr [HO]
  · isplitl [A8 P8]; · isplitl [A8] <;> iassumption
    isplitl [A9 P9]; · isplitl [A9] <;> iassumption
    isplitl [A11] <;> iassumption
  iexact HO

def DoneZI (c : Dev nD) (i : Fin 8) : sProp 𝕄 := iprop(crd c 2 i ∗ at0 c 2 i)
def DoneZJ (c : Dev nD) (i : Fin 8) : sProp 𝕄 := iprop(at1 c 2 i ∗ pts (zsC i) c fullShare (ZS A c i))

theorem step_doneZ (κ : GSem nD τ sig → ℕ) (c : Dev nD) (i : Fin 8) (p : BP F) (Q : PUnit → sProp 𝕄) :
    iprop(ctx A κ c ∗ DoneZI c i ∗ ow c 0) ⊢ iprop((DoneZJ A c i ∗ ow c 0 -∗ WP c p Q) -∗ WP c (stDoneZ i p) Q) := by
  unfold DoneZI DoneZJ stDoneZ
  iintro ⟨#Hc, ⟨C2, A2⟩, HO⟩ Hk
  iapply (wait_step A κ c 2 i (sdS_eq 0 i) (src := zrC i) (dst := zsC i) rfl Above.zero
    (P := pts (zsC i) c fullShare (ZS A c i)) Entails.rfl) $$ [C2 HO A2]
  · isplitr; · iexact Hc
    isplitl [C2]; · iexact C2
    isplitl [HO] <;> iassumption
  iintro ⟨HO, A2, P2⟩
  iapply Hk
  isplitr [HO]
  · isplitl [A2] <;> iassumption
  iexact HO

def DoneI (c : Dev nD) (i : Fin 8) : sProp 𝕄 :=
  iprop((at0 c 3 i ∗ at0 c 4 i ∗ at0 c 5 i) ∗ (crd c 3 i ∗ crd c 4 i ∗ crd c 5 i) ∗ orows c (Hs (qd c) i (fl (zd c))) (sh 2) (outV A c))
def DoneJ (c : Dev nD) (i : Fin 8) : sProp 𝕄 :=
  iprop((at1 c 3 i ∗ at1 c 4 i ∗ at1 c 5 i) ∗ orows c (Qs (qd c) i) fullShare (outV A c))

theorem step_done (κ : GSem nD τ sig → ℕ) (c : Dev nD) (i : Fin 8) (p : BP F) (Q : PUnit → sProp 𝕄) :
    iprop(ctx A κ c ∗ DoneI A c i ∗ ow c 0) ⊢ iprop((DoneJ A c i ∗ ow c 0 -∗ WP c p Q) -∗ WP c (stDone c i p) Q) := by
  unfold DoneI DoneJ stDone
  iintro ⟨#Hc, ⟨⟨A3, A4, A5⟩, ⟨C3, C4, C5⟩, Ho⟩, HO⟩ Hk
  iapply (wait_step A κ c 3 i (sdS_eq 1 i) (src := oC c i) (dst := oC c i) rfl Above.zero
    (P := orows c (Qs (qd c) i) (sh 0) (outV A c)) Entails.rfl) $$ [C3 HO A3]
  · isplitr; · iexact Hc
    isplitl [C3]; · iexact C3
    isplitl [HO] <;> iassumption
  iintro ⟨HO, A3, P3⟩
  iapply (wait_step A κ c 4 i (sdS_eq 2 i) (src := oC c i) (dst := oC c i) rfl Above.zero
    (P := orows c (Qs (qd c) i) (sh 1) (outV A c)) Entails.rfl) $$ [C4 HO A4]
  · isplitr; · iexact Hc
    isplitl [C4]; · iexact C4
    isplitl [HO] <;> iassumption
  iintro ⟨HO, A4, P4⟩
  iapply (wait_step A κ c 5 i (sdS_eq 3 i) (src := oH c i) (dst := oH c i) rfl Above.zero
    (P := orows c (Hs (qd c) i (zd c)) (sh 2) (outV A c)) Entails.rfl) $$ [C5 HO A5]
  · isplitr; · iexact Hc
    isplitl [C5]; · iexact C5
    isplitl [HO] <;> iassumption
  iintro ⟨HO, A5, P5⟩
  iapply Hk
  isplitr [HO]
  · isplitl [A3 A4 A5]
    · isplitl [A3]; · iexact A3
      isplitl [A4] <;> iassumption
    iapply (Ring.pointsTo_thirds fullShare _).2
    isplitl [P3]; · iexact P3
    isplitl [P4]; · iexact P4
    iapply (orows_halves c (qd c) i (zd c) (sh 2) (outV A c)).2
    isplitl [P5] <;> iassumption
  iexact HO

def DoneFI (c : Dev nD) (i : Fin 8) : sProp 𝕄 := iprop(crd c 6 i ∗ at0 c 6 i)
def DoneFJ (c : Dev nD) (i : Fin 8) : sProp 𝕄 := iprop(at1 c 6 i ∗ orows c (Hs (qd (dP c)) i (zd c)) fullShare (outV A c))

theorem step_doneF (κ : GSem nD τ sig → ℕ) (c : Dev nD) (i : Fin 8) (p : BP F) (Q : PUnit → sProp 𝕄) :
    iprop(ctx A κ c ∗ DoneFI c i ∗ ow c 0) ⊢ iprop((DoneFJ A c i ∗ ow c 0 -∗ WP c p Q) -∗ WP c (stDoneF c i p) Q) := by
  unfold DoneFI DoneFJ stDoneF
  iintro ⟨#Hc, ⟨C6, A6⟩, HO⟩ Hk
  iapply (wait_step A κ c 6 i (sdS_eq 4 i) (src := oD c i) (dst := oD c i) rfl Above.zero
    (P := orows c (Hs (qd (dP c)) i (zd c)) fullShare (outV A c)) Entails.rfl) $$ [C6 HO A6]
  · isplitr; · iexact Hc
    isplitl [C6]; · iexact C6
    isplitl [HO] <;> iassumption
  iintro ⟨HO, A6, P6⟩
  iapply Hk
  isplitr [HO]
  · isplitl [A6] <;> iassumption
  iexact HO

end Cert.KernelIdeal.Gen

end
-- ==== Proof.Rows.lean ====
module

public import proofs.«01_k».proof.Proof.Phases2

@[expose] public section

/-! # The buffers chunk by chunk

Each buffer the body works on, held whole, is held chunk by chunk, and back. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F)

/-- The eight chunks' resources. -/
abbrev all (Φ : Fin 8 → sProp 𝕄) : sProp 𝕄 := bigSep Finset.univ Φ

theorem any_deal {ℓ : Loc nD τ sig} (I : Fin 8 → Finset (Idx ℓ)) (hd : ∀ b b', b ≠ b' → Disjoint (I b) (I b'))
    (hc : Finset.univ.biUnion I = Finset.univ) :
    iprop(∃ f, ℓ ↦{fullShare} f) ⊢ (all fun i => iprop(∃ f, ℓ ↦[I i]{fullShare} f) : sProp 𝕄) := by
  have e (f : Buf (Elt F) ℓ) (i : Fin 8) : (ℓ ↦[I i]{fullShare} f : sProp 𝕄) ⊢ iprop(∃ f, ℓ ↦[I i]{fullShare} f) := by
    iintro H; iexists f; iexact H
  iintro ⟨%f, H⟩
  ihave H := (Entails.of_eq (Ring.pointsTo_blocks I hd hc f)) $$ H
  iapply (show (all fun i => (ℓ ↦[I i]{fullShare} f : sProp 𝕄)) ⊢ all fun i => iprop(∃ f, ℓ ↦[I i]{fullShare} f) from
    bigSep_mono fun i _ => e f i) $$ H

/-! ## The scratch buffers -/

theorem mem_rows {i : Fin 8} {j : S512x2048.Idx} :
    j ∈ (pqC i).view.set ↔ 64 * i.val ≤ (j 0).val ∧ (j 0).val < 64 * i.val + 64 := by
  rw [show (pqC i).view.set = (Rect.unit (s := S512x2048) ![64 * i.val, 0] S64x2048.size (chunk_inb i)).set from View.set_slice_whole _ _,
    Rect.mem_set_unit]
  constructor
  · intro h; exact h 0
  · intro h a
    fin_cases a
    · exact h
    · exact ⟨Nat.zero_le _, by have := (j 1).isLt; exact this⟩
theorem rows_disjoint (a b : Fin 8) (h : a ≠ b) : Disjoint ((pqC a).view.set : Finset S512x2048.Idx) (pqC b).view.set := by
  rw [Finset.disjoint_left]
  intro j h1 h2
  rw [mem_rows] at h1 h2
  exact h (Fin.ext (by omega))
theorem rows_cover : Finset.biUnion (β := S512x2048.Idx) (Finset.univ : Finset (Fin 8)) (fun i => (pqC i).view.set) = Finset.univ := by
  ext j
  simp only [Finset.mem_biUnion, Finset.mem_univ, true_and, iff_true]
  have hj : (j 0).val < 512 := (j 0).isLt
  refine ⟨⟨(j 0).val / 64, by omega⟩, mem_rows.mpr ?_⟩
  show 64 * ((j 0).val / 64) ≤ (j 0).val ∧ (j 0).val < 64 * ((j 0).val / 64) + 64
  omega

theorem mem_slot {i : Fin 8} {j : S8x64x2048.Idx} : j ∈ (zsC i).view.set ↔ (j 0).val = i.val := by
  rw [show (zsC i).view.set = (Rect.unit (s := S8x64x2048) ![i.val, 0, 0] S1x64x2048.size (slot_inb i)).set from
    (View.set_reshape _ _).trans (View.set_slice_whole _ _), Rect.mem_set_unit]
  constructor
  · intro h
    have h0 : i.val ≤ (j 0).val ∧ (j 0).val < i.val + 1 := h 0
    omega
  · intro h a
    fin_cases a
    · exact (by omega : i.val ≤ (j 0).val ∧ (j 0).val < i.val + 1)
    · exact ⟨Nat.zero_le _, by have := (j 1).isLt; exact this⟩
    · exact ⟨Nat.zero_le _, by have := (j 2).isLt; exact this⟩
theorem slots_disjoint (a b : Fin 8) (h : a ≠ b) : Disjoint ((zsC a).view.set : Finset S8x64x2048.Idx) (zsC b).view.set := by
  rw [Finset.disjoint_left]
  intro j h1 h2
  rw [mem_slot] at h1 h2
  exact h (Fin.ext (by omega))
theorem slots_cover : Finset.biUnion (β := S8x64x2048.Idx) (Finset.univ : Finset (Fin 8)) (fun i => (zsC i).view.set) = Finset.univ := by
  ext j
  simp only [Finset.mem_biUnion, Finset.mem_univ, true_and, iff_true]
  exact ⟨⟨(j 0).val, (j 0).isLt⟩, mem_slot.mpr rfl⟩

/-- A buffer at contents not chosen. -/
abbrev anyB (c : Dev nD) (b : Ref sig .tc) : sProp 𝕄 := iprop(∃ f, ((c : Thread nD τ).loc b) ↦{fullShare} f)

theorem pq_deal (c : Dev nD) : (anyB c cc0_scratch0 : sProp 𝕄) ⊢ all fun i => iprop(∃ f, pts (pqC i) c fullShare f) :=
  any_deal (ℓ := (c : Thread nD τ).loc cc0_scratch0) (fun i => (pqC i).view.set) rows_disjoint rows_cover
theorem rq_deal (c : Dev nD) : (anyB c cc0_scratch1 : sProp 𝕄) ⊢ all fun i => iprop(∃ f, pts (rqC i) c fullShare f) :=
  any_deal (ℓ := (c : Thread nD τ).loc cc0_scratch1) (fun i => (rqC i).view.set) rows_disjoint rows_cover
theorem zs_deal (c : Dev nD) : (anyB c cc0_scratch2 : sProp 𝕄) ⊢ all fun i => iprop(∃ f, pts (zsC i) c fullShare f) :=
  any_deal (ℓ := (c : Thread nD τ).loc cc0_scratch2) (fun i => (zsC i).view.set) slots_disjoint slots_cover
theorem zr_deal (c : Dev nD) : (anyB c cc0_scratch3 : sProp 𝕄) ⊢ all fun i => iprop(∃ f, pts (zrC i) c fullShare f) :=
  any_deal (ℓ := (c : Thread nD τ).loc cc0_scratch3) (fun i => (zrC i).view.set) slots_disjoint slots_cover

theorem pq_join (c : Dev nD) (fs : Fin 8 → S512x2048.Idx → Elt F .f32) :
    (all fun i => pts (pqC i) c fullShare (fs i)) ⊢ (anyB c cc0_scratch0 : sProp 𝕄) :=
  Ring.pointsTo_blocks_join (ℓ := (c : Thread nD τ).loc cc0_scratch0) (fun i => (pqC i).view.set) rows_disjoint rows_cover fs (fs 0)
theorem rq_join (c : Dev nD) (fs : Fin 8 → S512x2048.Idx → Elt F .f32) :
    (all fun i => pts (rqC i) c fullShare (fs i)) ⊢ (anyB c cc0_scratch1 : sProp 𝕄) :=
  Ring.pointsTo_blocks_join (ℓ := (c : Thread nD τ).loc cc0_scratch1) (fun i => (rqC i).view.set) rows_disjoint rows_cover fs (fs 0)
theorem zs_join (c : Dev nD) (fs : Fin 8 → S8x64x2048.Idx → Elt F .bf16) :
    (all fun i => pts (zsC i) c fullShare (fs i)) ⊢ (anyB c cc0_scratch2 : sProp 𝕄) :=
  Ring.pointsTo_blocks_join (ℓ := (c : Thread nD τ).loc cc0_scratch2) (fun i => (zsC i).view.set) slots_disjoint slots_cover fs (fs 0)
theorem zr_join (c : Dev nD) (fs : Fin 8 → S8x64x2048.Idx → Elt F .bf16) :
    (all fun i => pts (zrC i) c fullShare (fs i)) ⊢ (anyB c cc0_scratch3 : sProp 𝕄) :=
  Ring.pointsTo_blocks_join (ℓ := (c : Thread nD τ).loc cc0_scratch3) (fun i => (zrC i).view.set) slots_disjoint slots_cover fs (fs 0)

/-! ## The operands left in place: the device's own chunks, and the rest -/

theorem mem_pC {c : Dev nD} {i : Fin 8} {j : S1x2048x2048.Idx} :
    j ∈ (pC c i).view.set ↔ 512 * (qd c).val + 64 * i.val ≤ (j 1).val ∧ (j 1).val < 512 * (qd c).val + 64 * i.val + 64 := by
  rw [show (pC c i).view.set = (Rect.unit (s := S1x2048x2048) (k0_off1 c (cw i)) S1x64x2048.size (k0_off1_inb c i)).set from
    (View.set_reshape _ _).trans (View.set_slice_whole _ _), Rect.mem_set_unit, off1_eq]
  constructor
  · intro h; exact h 1
  · intro h a
    fin_cases a
    · exact ⟨Nat.zero_le _, by have := (j 0).isLt; exact this⟩
    · exact h
    · exact ⟨Nat.zero_le _, by have := (j 2).isLt; exact this⟩
theorem pC_disjoint (c : Dev nD) (a b : Fin 8) (h : a ≠ b) : Disjoint ((pC c a).view.set : Finset S1x2048x2048.Idx) (pC c b).view.set := by
  rw [Finset.disjoint_left]
  intro j h1 h2
  rw [mem_pC] at h1 h2
  exact h (Fin.ext (by omega))
theorem set_rC (c : Dev nD) (i : Fin 8) : ((rC c i).view.set : Finset S2048x2048.Idx) = Qs (qd c) i :=
  (Memref.set_slice_unit_eq_of_eq rM _ _ (Qs_inb (qd c) i) (fun _ => rfl) (off2_eq c i)).trans (View.set_slice_whole _ _)
theorem rC_disjoint (c : Dev nD) (a b : Fin 8) (h : a ≠ b) : Disjoint ((rC c a).view.set : Finset S2048x2048.Idx) (rC c b).view.set := by
  rw [set_rC, set_rC]
  exact Qs_disjoint (qd c, a) (qd c, b) fun e => h (congrArg Prod.snd e)

/-- The rows of the operands the device does not read. -/
abbrev pRest (c : Dev nD) (f : S1x2048x2048.Idx → Elt F .f32) : sProp 𝕄 :=
  ((c : Thread nD τ).loc main_arg0) ↦[Finset.univ \ Finset.univ.biUnion fun i : Fin 8 => (pC c i).view.set]{fullShare} f
abbrev rRest (c : Dev nD) (f : S2048x2048.Idx → Elt F .f32) : sProp 𝕄 :=
  ((c : Thread nD τ).loc main_arg1) ↦[Finset.univ \ Finset.univ.biUnion fun i : Fin 8 => (rC c i).view.set]{fullShare} f

theorem p_deal (c : Dev nD) (f : S1x2048x2048.Idx → Elt F .f32) :
    ((((c : Thread nD τ).loc main_arg0) ↦{fullShare} f : sProp 𝕄)) ⊣⊢ iprop((all fun i => pts (pC c i) c fullShare f) ∗ pRest c f) := by
  have h := Ring.pointsTo_sub_blocks (ℓ := (c : Thread nD τ).loc main_arg0) (Val := Elt F) (Ix := Unit) (Name := ℕ) (U := UU) (Lvl := ℕ)
    (fun i : Fin 8 => (pC c i).view.set) (pC_disjoint c) _ rfl (q := fullShare) f
  rw [show (all fun i => pts (pC c i) c fullShare f : sProp 𝕄) = _ from h.symm]
  exact pointsTo_split_subset (Finset.subset_univ _)
theorem r_deal (c : Dev nD) (f : S2048x2048.Idx → Elt F .f32) :
    ((((c : Thread nD τ).loc main_arg1) ↦{fullShare} f : sProp 𝕄)) ⊣⊢ iprop((all fun i => pts (rC c i) c fullShare f) ∗ rRest c f) := by
  have h := Ring.pointsTo_sub_blocks (ℓ := (c : Thread nD τ).loc main_arg1) (Val := Elt F) (Ix := Unit) (Name := ℕ) (U := UU) (Lvl := ℕ)
    (fun i : Fin 8 => (rC c i).view.set) (rC_disjoint c) _ rfl (q := fullShare) f
  rw [show (all fun i => pts (rC c i) c fullShare f : sProp 𝕄) = _ from h.symm]
  exact pointsTo_split_subset (Finset.subset_univ _)

/-! ## The result -/

/-- The result by owner's quarter: the own one, the `x` and the `y` neighbour's, and the diagonal one in halves. -/
theorem o_deal (c : Dev nD) (f : S2048x2048.Idx → Elt F .bf16) :
    (((c : Thread nD τ).loc cc0_stg1_0) ↦{fullShare} f : sProp 𝕄)
      ⊣⊢ iprop((all fun i => orows c (Qs (qd c) i) fullShare f) ∗ (all fun i => orows c (Qs (qd (xP c)) i) fullShare f)
        ∗ (all fun i => orows c (Qs (qd (yP c)) i) fullShare f)
        ∗ (all fun i => orows c (Hs (qd (dP c)) i (zd c)) fullShare f) ∗ (all fun i => orows c (Hs (qd (dP c)) i (fl (zd c))) fullShare f)) := by
  have h := Ring.pointsTo_blocks (ℓ := (c : Thread nD τ).loc cc0_stg1_0) (Val := Elt F) (Ix := Unit) (Name := ℕ) (U := UU) (Lvl := ℕ)
    (fun a : Fin 4 × Fin 8 => Qs a.1 a.2) Qs_disjoint Qs_cover (q := fullShare) f
  rw [h, bigSep_univ_prod, bigSep_univ_eq_bigSepL [qd c, qd (xP c), qd (yP c), qd (dP c)] (qds_univ c) (qds_nodup c)]
  simp only [bigSepL]
  have e (i : Fin 8) : (orows c (Qs (qd (dP c)) i) fullShare f : sProp 𝕄)
      = iprop(orows c (Hs (qd (dP c)) i (zd c)) fullShare f ∗ orows c (Hs (qd (dP c)) i (fl (zd c))) fullShare f) :=
    BI.equiv_iff.mp ⟨(orows_halves c (qd (dP c)) i (zd c) fullShare f).1, (orows_halves c (qd (dP c)) i (zd c) fullShare f).2⟩
  rw [show (bigSep Finset.univ fun b : Fin 8 => (((c : Thread nD τ).loc cc0_stg1_0) ↦[Qs (qd (dP c)) b]{fullShare} f : sProp 𝕄))
      = iprop((all fun i => orows c (Hs (qd (dP c)) i (zd c)) fullShare f) ∗ (all fun i => orows c (Hs (qd (dP c)) i (fl (zd c))) fullShare f))
    from (bigSep_congr fun i _ => e i).trans (bigSep_sep' _ _ _)]
  exact ⟨Entails.rfl, Entails.rfl⟩

end Cert.KernelIdeal.Gen

end
-- ==== Proof.Run.lean ====
module

public import proofs.«01_k».proof.Proof.Rows

@[expose] public section

/-! # The run of the body

The loops in order: what each takes for the eight chunks is dealt out of what the body starts from and of what the loops
before it gave back. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F)

/-! ## What each loop takes and gives back, over all chunks -/

theorem copyI_all (c : Dev nD) : bigSep Finset.univ (CopyI A c) = (iprop(((all fun i => pts (pC c i) c fullShare (A.P c))
      ∗ (all fun i => iprop(∃ f, pts (pqC i) c fullShare f)) ∗ all (tok c 0))
    ∗ ((all fun i => pts (rC c i) c fullShare (A.R c)) ∗ (all fun i => iprop(∃ f, pts (rqC i) c fullShare f)) ∗ all (tok c 1))) : sProp 𝕄) := by
  show (all fun i => CopyI A c i) = _
  simp only [CopyI, bigSep_sep']
theorem copyJ_all (c : Dev nD) : bigSep Finset.univ (CopyJ c) = (iprop(all (crd c 0) ∗ all (crd c 1)) : sProp 𝕄) := by
  show (all fun i => CopyJ c i) = _
  simp only [CopyJ, bigSep_sep']

/-- What the `z` neighbour's barrier unit brings, by use: the slots for the rounded partials, the rows for the forwarded halves. -/
abbrev nbZ (c : Dev nD) (i : Fin 8) : sProp 𝕄 := iprop((∃ f, pts (zrC i) (zP c) fullShare f) ∗ reached ER (cell (zP c) 7 i) 0)
abbrev nbF (c : Dev nD) (i : Fin 8) : sProp 𝕄 :=
  iprop((∃ f, orows (zP c) (Hs (qd (dP c)) i (zd c)) fullShare f) ∗ reached ER (cell (zP c) 11 i) 0)
theorem barPay_z (c : Dev nD) : barPay c 0 = (iprop(all (nbZ c) ∗ all (nbF c)) : sProp 𝕄) := bigSep_sep' _ _ _
theorem barPay_send (c : Dev nD) : all (SendZone c) = (iprop(barPay c 1 ∗ barPay c 2 ∗ barPay c 3) : sProp 𝕄) := by
  show (all fun i => SendZone c i) = _
  simp only [SendZone, barPay, bigSep_sep']

theorem sendZI_all (c : Dev nD) : bigSep Finset.univ (SendZI c) = (iprop((all (crd c 0) ∗ all (at0 c 0))
      ∗ (all fun i => iprop(∃ f, pts (zsC i) c fullShare f)) ∗ (all (tok c 2) ∗ all (tok (zP c) 7)) ∗ all (nbZ c)) : sProp 𝕄) := by
  show (all fun i => SendZI c i) = (iprop((all (crd c 0) ∗ all (at0 c 0))
      ∗ (all fun i => iprop(∃ f, pts (zsC i) c fullShare f)) ∗ (all (tok c 2) ∗ all (tok (zP c) 7)) ∗ all fun i => nbZ c i) : sProp 𝕄)
  simp only [SendZI, bigSep_sep']
theorem sendZJ_all (c : Dev nD) : bigSep Finset.univ (SendZJ A c) = (iprop(((all fun i => pts (pqC i) c fullShare (PQ A c i))
      ∗ (all fun i => pts (pC c i) c fullShare (A.P c))) ∗ all (at1 c 0) ∗ all (crd c 2)) : sProp 𝕄) := by
  show (all fun i => SendZJ A c i) = _
  simp only [SendZJ, bigSep_sep']

theorem compI_all (c : Dev nD) : bigSep Finset.univ (CompI A c) = (iprop(((all (crd c 7) ∗ all (at0 c 7)) ∗ (all (crd c 1) ∗ all (at0 c 1)))
      ∗ (all fun i => pts (pqC i) c fullShare (PQ A c i)) ∗ (all fun i => iprop(∃ f, orows c (Qs (qd c) i) fullShare f))
      ∗ all (SendTok c) ∗ all (SendZone c)) : sProp 𝕄) := by
  show (all fun i => CompI A c i) = _
  simp only [CompI, bigSep_sep']
theorem compJ_all (c : Dev nD) : bigSep Finset.univ (CompJ A c) = (iprop((all (at1 c 7) ∗ all (at1 c 1))
      ∗ (all fun i => pts (pqC i) c fullShare (PQ A c i))
      ∗ ((all fun i => pts (rqC i) c fullShare (RQ A c i)) ∗ (all fun i => pts (rC c i) c fullShare (A.R c)))
      ∗ (all fun i => pts (zrC i) c fullShare (ZR A c i)) ∗ (all (crd c 3) ∗ all (crd c 4) ∗ all (crd c 5))
      ∗ (all fun i => orows c (Hs (qd c) i (fl (zd c))) (sh 2) (outV A c))) : sProp 𝕄) := by
  show (all fun i => CompJ A c i) = _
  simp only [CompJ, bigSep_sep']

theorem fwdI_all (c : Dev nD) : bigSep Finset.univ (FwdI c) = (iprop((all (crd c 10) ∗ all (at0 c 10)) ∗ (all (tok c 6) ∗ all (tok (zP c) 11))
      ∗ all (nbF c)) : sProp 𝕄) := by
  show (all fun i => FwdI c i) = (iprop((all (crd c 10) ∗ all (at0 c 10)) ∗ (all (tok c 6) ∗ all (tok (zP c) 11))
      ∗ all fun i => nbF c i) : sProp 𝕄)
  simp only [FwdI, bigSep_sep']
theorem fwdJ_all (c : Dev nD) : bigSep Finset.univ (FwdJ c) = (iprop(all (at1 c 10) ∗ all (crd c 6)) : sProp 𝕄) := by
  show (all fun i => FwdJ c i) = _
  simp only [FwdJ, bigSep_sep']

theorem recvI_all (c : Dev nD) : bigSep Finset.univ (RecvI c) = (iprop((all (crd c 8) ∗ all (at0 c 8)) ∗ (all (crd c 9) ∗ all (at0 c 9))
      ∗ (all (crd c 11) ∗ all (at0 c 11))) : sProp 𝕄) := by
  show (all fun i => RecvI c i) = _
  simp only [RecvI, bigSep_sep']
theorem recvJ_all (c : Dev nD) : bigSep Finset.univ (RecvJ A c) = (iprop((all (at1 c 8) ∗ (all fun i => orows c (Qs (qd (xP c)) i) fullShare (outV A c)))
      ∗ (all (at1 c 9) ∗ (all fun i => orows c (Qs (qd (yP c)) i) fullShare (outV A c)))
      ∗ (all (at1 c 11) ∗ (all fun i => orows c (Hs (qd (dP c)) i (fl (zd c))) fullShare (outV A c)))) : sProp 𝕄) := by
  show (all fun i => RecvJ A c i) = _
  simp only [RecvJ, bigSep_sep']

theorem doneZI_all (c : Dev nD) : bigSep Finset.univ (DoneZI c) = (iprop(all (crd c 2) ∗ all (at0 c 2)) : sProp 𝕄) := by
  show (all fun i => DoneZI c i) = _
  simp only [DoneZI, bigSep_sep']
theorem doneZJ_all (c : Dev nD) : bigSep Finset.univ (DoneZJ A c) = (iprop(all (at1 c 2) ∗ (all fun i => pts (zsC i) c fullShare (ZS A c i))) : sProp 𝕄) := by
  show (all fun i => DoneZJ A c i) = _
  simp only [DoneZJ, bigSep_sep']

theorem doneI_all (c : Dev nD) : bigSep Finset.univ (DoneI A c) = (iprop((all (at0 c 3) ∗ all (at0 c 4) ∗ all (at0 c 5))
      ∗ (all (crd c 3) ∗ all (crd c 4) ∗ all (crd c 5)) ∗ (all fun i => orows c (Hs (qd c) i (fl (zd c))) (sh 2) (outV A c))) : sProp 𝕄) := by
  show (all fun i => DoneI A c i) = _
  simp only [DoneI, bigSep_sep']
theorem doneJ_all (c : Dev nD) : bigSep Finset.univ (DoneJ A c) = (iprop((all (at1 c 3) ∗ all (at1 c 4) ∗ all (at1 c 5))
      ∗ (all fun i => orows c (Qs (qd c) i) fullShare (outV A c))) : sProp 𝕄) := by
  show (all fun i => DoneJ A c i) = _
  simp only [DoneJ, bigSep_sep']

theorem doneFI_all (c : Dev nD) : bigSep Finset.univ (DoneFI c) = (iprop(all (crd c 6) ∗ all (at0 c 6)) : sProp 𝕄) := by
  show (all fun i => DoneFI c i) = _
  simp only [DoneFI, bigSep_sep']
theorem doneFJ_all (c : Dev nD) : bigSep Finset.univ (DoneFJ A c) = (iprop(all (at1 c 6) ∗ (all fun i => orows c (Hs (qd (dP c)) i (zd c)) fullShare (outV A c))) : sProp 𝕄) := by
  show (all fun i => DoneFJ A c i) = _
  simp only [DoneFJ, bigSep_sep']

theorem zoneZ_all (c : Dev nD) : bigSep Finset.univ (ZoneZ c) = (iprop((all fun i => iprop(∃ f, pts (zrC i) c fullShare f))
      ∗ (all fun i => iprop(∃ f, orows c (Hs (qd (dP c)) i (fl (zd c))) fullShare f))) : sProp 𝕄) := by
  show (all fun i => ZoneZ c i) = _
  simp only [ZoneZ, bigSep_sep']

/-- A family over all transfer cells of a device, row by row. -/
theorem cells_all (Φ : Fin 12 → Fin 8 → sProp 𝕄) : bigSep Finset.univ (fun x : Fin 12 × Fin 8 => Φ x.1 x.2)
    = iprop(all (Φ 0) ∗ all (Φ 1) ∗ all (Φ 2) ∗ all (Φ 3) ∗ all (Φ 4) ∗ all (Φ 5) ∗ all (Φ 6) ∗ all (Φ 7) ∗ all (Φ 8) ∗ all (Φ 9)
        ∗ all (Φ 10) ∗ all (Φ 11)) :=
  (bigSep_univ_prod _).trans (bigSep_univ_eq_bigSepL [(0 : Fin 12), 1, 2, 3, 4, 5, 6, 7, 8, 9, 10, 11] (by decide) (by decide)
    fun k => all (Φ k))

/-! ## Before and after -/

/-- The tokens of the duties the device pays. -/
def Toks (c : Dev nD) : sProp 𝕄 :=
  iprop(BarT c ∗ all (tok c 0) ∗ all (tok c 1) ∗ (all (tok c 2) ∗ all (tok (zP c) 7)) ∗ all (SendTok c) ∗ (all (tok c 6) ∗ all (tok (zP c) 11)))
/-- The credits of the waits that others serve. -/
def Crds (c : Dev nD) : sProp 𝕄 :=
  iprop(cred (tallyAt (barCell c) () 4) ∗ all (crd c 7) ∗ all (crd c 8) ∗ all (crd c 9) ∗ all (crd c 10) ∗ all (crd c 11))
/-- The operands left in place. -/
def Ops (c : Dev nD) : sProp 𝕄 :=
  iprop((((c : Thread nD τ).loc main_arg0) ↦{fullShare} A.P c) ∗ (((c : Thread nD τ).loc main_arg1) ↦{fullShare} A.R c))
def Scr (c : Dev nD) : sProp 𝕄 := iprop(anyB c cc0_scratch0 ∗ anyB c cc0_scratch1 ∗ anyB c cc0_scratch2 ∗ anyB c cc0_scratch3)

def bodyPre (c : Dev nD) : sProp 𝕄 :=
  iprop(Ops A c ∗ gam A c ∗ Scr c ∗ anyB c cc0_stg1_0
    ∗ Toks c ∗ (bigSep Finset.univ fun x : Fin 12 × Fin 8 => at0 c x.1 x.2) ∗ atPos ER (barCell c) 0 ∅ 0 ∗ Crds c ∗ ow c (O₀ c))
def bodyPost (c : Dev nD) : sProp 𝕄 :=
  iprop(Ops A c ∗ gam A c ∗ Scr c ∗ (((c : Thread nD τ).loc cc0_stg1_0) ↦{fullShare} outV A c)
    ∗ (bigSep Finset.univ fun x : Fin 12 × Fin 8 => at1 c x.1 x.2) ∗ atPos ER (barCell c) (0 + 1) ∅ 0 ∗ ow c 0)

theorem rows_any (c : Dev nD) (S : Fin 8 → Finset S2048x2048.Idx) (f : S2048x2048.Idx → Elt F .bf16) :
    (all fun i => orows c (S i) fullShare f) ⊢ (all fun i => iprop(∃ f, orows c (S i) fullShare f) : sProp 𝕄) := by
  have e (i : Fin 8) : (orows c (S i) fullShare f : sProp 𝕄) ⊢ iprop(∃ f, orows c (S i) fullShare f) := by
    iintro H; iexists f; iexact H
  exact bigSep_mono fun i _ => e i

theorem run_deviceId (c : Dev nD) (k : Dev nD → BP F) (Q : PUnit → sProp 𝕄) : WP c (.op .deviceId k) Q = WP c (k c) Q :=
  wp_deviceId 𝒱₀ (c : Thread nD τ) none Set.univ
theorem run_ret (c : Dev nD) (Q : PUnit → sProp 𝕄) : Q ⟨⟩ ⊢ WP c (.ret ⟨⟩) Q := by
  unfold WP; rw [wp_ret]
  iintro H; imodintro; iexact H

theorem body_run (κ : GSem nD τ sig → ℕ) (c : Dev nD) (Q : PUnit → sProp 𝕄) :
    iprop(ctx A κ c ∗ bodyPre A c) ⊢ iprop((bodyPost A c -∗ |={Set.univ}=> Q ⟨⟩) -∗ WP c (body (F := F)) Q) := by
  unfold bodyPre bodyPost Toks Crds Ops Scr
  rw [cells_all (fun k i => at0 c k i), cells_all (fun k i => at1 c k i)]
  iintro ⟨#Hc, ⟨HP, HR⟩, Hg, ⟨Hpq, Hrq, Hzs, Hzr⟩, ⟨%fo, Ho⟩, ⟨Tb, T0, T1, ⟨T2, T7⟩, TS, T6, T11⟩,
    ⟨A0, A1, A2, A3, A4, A5, A6, A7, A8, A9, A10, A11⟩, Ab, ⟨Cb, C7, C8, C9, C10, C11⟩, HO⟩ Hk
  ihave HP := (p_deal c (A.P c)).1 $$ HP
  icases HP with ⟨HP, HPr⟩
  ihave HR := (r_deal c (A.R c)).1 $$ HR
  icases HR with ⟨HR, HRr⟩
  ihave Hpq := (pq_deal c) $$ Hpq
  ihave Hrq := (rq_deal c) $$ Hrq
  ihave Hzs := (zs_deal c) $$ Hzs
  ihave Hzr := (zr_deal c) $$ Hzr
  ihave Ho := (o_deal c fo).1 $$ Ho
  icases Ho with ⟨Ho, Hox, Hoy, Hod, Hof⟩
  ihave Ho := (rows_any c _ fo) $$ Ho
  ihave Hox := (rows_any c _ fo) $$ Hox
  ihave Hoy := (rows_any c _ fo) $$ Hoy
  ihave Hod := (rows_any c _ fo) $$ Hod
  ihave Hof := (rows_any c _ fo) $$ Hof
  unfold body
  rw [run_deviceId]
  -- the local copies
  iapply (loop_step c (ctx A κ c) (stCopy c) (CopyI A c) (CopyJ c) (fun _ => iprop(emp)) (step_copy A κ c) _ _) $$ [HP Hpq T0 HR Hrq T1]
  · isplitr; · iexact Hc
    isplitl
    · rw [copyI_all]
      isplitl [HP Hpq T0]
      · isplitl [HP]; · iexact HP
        isplitl [Hpq] <;> iassumption
      isplitl [HR]; · iexact HR
      isplitl [Hrq] <;> iassumption
    iempintro
  rw [copyJ_all]
  iintro ⟨⟨C0, C1⟩, -⟩
  -- the barrier
  iapply (step_barrier A κ c _ _) $$ [Hzr Hof Hox Hoy Hod Tb Cb Ab HO]
  · isplitr; · iexact Hc
    isplitl [Hzr Hof Hox Hoy Hod]
    · isplitl [Hzr Hof]
      · rw [zoneZ_all]; isplitl [Hzr] <;> iassumption
      isplitl [Hox]; · iexact Hox
      isplitl [Hoy]; · iexact Hoy
      iexact Hod
    isplitl [Tb]; · iexact Tb
    isplitl [Cb]; · iexact Cb
    isplitl [Ab] <;> iassumption
  rw [barPay_z]
  iintro ⟨HO, Ab, ⟨NZ, NF⟩, NX, NY, ND⟩
  -- the rounded partials
  iapply (loop_step c (ctx A κ c) (stSendZ c) (SendZI c) (SendZJ A c) (fun j => ow c (OF c 0 + OS c 0 + OZ c j)) (step_sendZ A κ c) _ _)
    $$ [C0 A0 Hzs T2 T7 NZ HO]
  · isplitr; · iexact Hc
    isplitr [HO]
    · rw [sendZI_all]
      isplitl [C0 A0]; · isplitl [C0] <;> iassumption
      isplitl [Hzs]; · iexact Hzs
      isplitl [T2 T7]; · isplitl [T2] <;> iassumption
      iexact NZ
    iexact HO
  rw [sendZJ_all]
  iintro ⟨⟨⟨Hpq, HP⟩, A0, C2⟩, HO⟩
  ihave HO := (ow_of_eq (show OF c 0 + OS c 0 + OZ c 8 = OF c 0 + OS c 0 by unfold OZ; rw [chan_end, add_zero])) $$ HO
  -- the chunks and their sends
  iapply (loop_step c (ctx A κ c) (fun i k => stComp c i (stSend c i k)) (CompI A c) (CompJ A c)
    (fun j => iprop(gam A c ∗ ow c (OF c 0 + OS c j))) (step_comp A κ c) _ _) $$ [C7 A7 C1 A1 Hpq Ho TS NX NY ND Hg HO]
  · isplitr; · iexact Hc
    isplitr [Hg HO]
    · rw [compI_all]
      isplitl [C7 A7 C1 A1]
      · isplitl [C7 A7]; · isplitl [C7] <;> iassumption
        isplitl [C1] <;> iassumption
      isplitl [Hpq]; · iexact Hpq
      isplitl [Ho]; · iexact Ho
      isplitl [TS]; · iexact TS
      rw [barPay_send]
      isplitl [NX]; · iexact NX
      isplitl [NY] <;> iassumption
    isplitl [Hg] <;> iassumption
  rw [compJ_all]
  iintro ⟨⟨⟨A7, A1⟩, Hpq, ⟨Hrq, HR⟩, Hzr, ⟨C3, C4, C5⟩, Ho⟩, Hg, HO⟩
  ihave HO := (ow_of_eq (show OF c 0 + OS c 8 = OF c 0 by unfold OS; rw [chan_end, chan_end, chan_end, add_zero, add_zero, add_zero])) $$ HO
  -- the forwarding
  iapply (loop_step c (ctx A κ c) (stFwd c) (FwdI c) (FwdJ c) (fun j => ow c (OF c j)) (step_fwd A κ c) _ _) $$ [C10 A10 T6 T11 NF HO]
  · isplitr; · iexact Hc
    isplitr [HO]
    · rw [fwdI_all]
      isplitl [C10 A10]; · isplitl [C10] <;> iassumption
      isplitl [T6 T11]; · isplitl [T6] <;> iassumption
      iexact NF
    iexact HO
  rw [fwdJ_all]
  iintro ⟨⟨A10, C6⟩, HO⟩
  ihave HO := (ow_of_eq (show OF c 8 = 0 from chan_end _ _)) $$ HO
  -- the receipts
  iapply (loop_step c (ctx A κ c) (stRecv c) (RecvI c) (RecvJ A c) (fun _ => ow c 0) (step_recv A κ c) _ _) $$ [C8 A8 C9 A9 C11 A11 HO]
  · isplitr; · iexact Hc
    isplitr [HO]
    · rw [recvI_all]
      isplitl [C8 A8]; · isplitl [C8] <;> iassumption
      isplitl [C9 A9]; · isplitl [C9] <;> iassumption
      isplitl [C11] <;> iassumption
    iexact HO
  rw [recvJ_all]
  iintro ⟨⟨⟨A8, Hox⟩, ⟨A9, Hoy⟩, A11, Hof⟩, HO⟩
  -- the waits for the sends
  iapply (loop_step c (ctx A κ c) stDoneZ (DoneZI c) (DoneZJ A c) (fun _ => ow c 0) (step_doneZ A κ c) _ _) $$ [C2 A2 HO]
  · isplitr; · iexact Hc
    isplitr [HO]
    · rw [doneZI_all]; isplitl [C2] <;> iassumption
    iexact HO
  rw [doneZJ_all]
  iintro ⟨⟨A2, Hzs⟩, HO⟩
  iapply (loop_step c (ctx A κ c) (stDone c) (DoneI A c) (DoneJ A c) (fun _ => ow c 0) (step_done A κ c) _ _) $$ [A3 A4 A5 C3 C4 C5 Ho HO]
  · isplitr; · iexact Hc
    isplitr [HO]
    · rw [doneI_all]
      isplitl [A3 A4 A5]
      · isplitl [A3]; · iexact A3
        isplitl [A4] <;> iassumption
      isplitl [C3 C4 C5]
      · isplitl [C3]; · iexact C3
        isplitl [C4] <;> iassumption
      iexact Ho
    iexact HO
  rw [doneJ_all]
  iintro ⟨⟨⟨A3, A4, A5⟩, Ho⟩, HO⟩
  iapply (loop_step c (ctx A κ c) (stDoneF c) (DoneFI c) (DoneFJ A c) (fun _ => ow c 0) (step_doneF A κ c) _ _) $$ [C6 A6 HO]
  · isplitr; · iexact Hc
    isplitr [HO]
    · rw [doneFI_all]; isplitl [C6] <;> iassumption
    iexact HO
  rw [doneFJ_all]
  iintro ⟨⟨A6, Hod⟩, HO⟩
  unfold WP; rw [wp_ret]
  iapply Hk
  isplitl [HP HPr HR HRr]
  · isplitl [HP HPr]
    · iapply (p_deal c (A.P c)).2
      isplitl [HP] <;> iassumption
    · iapply (r_deal c (A.R c)).2
      isplitl [HR] <;> iassumption
  isplitl [Hg]; · iexact Hg
  isplitl [Hpq Hrq Hzs Hzr]
  · isplitl [Hpq]; · iapply (pq_join c (PQ A c)) $$ Hpq
    isplitl [Hrq]; · iapply (rq_join c (RQ A c)) $$ Hrq
    isplitl [Hzs]; · iapply (zs_join c (ZS A c)) $$ Hzs
    iapply (zr_join c (ZR A c)) $$ Hzr
  isplitl [Ho Hox Hoy Hod Hof]
  · iapply (o_deal c (outV A c)).2
    isplitl [Ho]; · iexact Ho
    isplitl [Hox]; · iexact Hox
    isplitl [Hoy]; · iexact Hoy
    isplitl [Hod] <;> iassumption
  isplitr [Ab HO]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10] <;> iassumption
  isplitl [Ab] <;> iassumption

end Cert.KernelIdeal.Gen

end
-- ==== Proof.Deal.lean ====
module

public import proofs.«01_k».proof.Proof.Run

@[expose] public section

/-! # Opening, closing and dealing the cells

The transfer cells are opened when the kernel is entered and closed when it leaves. Every token goes to the device that
pays with it, every credit to the device that waits with it. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F)

/-! ## Opening and closing -/

/-- The kernel's own semaphores. -/
def osem (x : Fin 12 × Fin 8) : SemLoc sig := .dma (csem x.1 x.2)

/-- The invariants of all cells, and that every barrier cell is open. -/
def invs (κ : GSem nD τ sig → ℕ) : sProp 𝕄 :=
  iprop((bigSep Finset.univ fun n : Dev nD => cellInv ER (sched A) (κ (barCell n)) (barCell n))
    ∗ (bigSep Finset.univ fun x : Dev nD × Fin 12 × Fin 8 => cellInv ER (sched A) (κ (cell x.1 x.2.1 x.2.2)) (cell x.1 x.2.1 x.2.2))
    ∗ (bigSep Finset.univ fun n : Dev nD => reached ER (barCell n) 0))

instance invs_persistent (κ : GSem nD τ sig → ℕ) : BI.Persistent (invs A κ) := by unfold invs; infer_instance

theorem invs_cell (κ : GSem nD τ sig → ℕ) (n : Dev nD) (k : Fin 12) (i : Fin 8) :
    invs A κ ⊢ cellInv ER (sched A) (κ (cell n k i)) (cell n k i) := by
  unfold invs; iintro ⟨-, H, -⟩
  iapply (show (bigSep Finset.univ fun x : Dev nD × Fin 12 × Fin 8 =>
    (cellInv ER (sched A) (κ (cell x.1 x.2.1 x.2.2)) (cell x.1 x.2.1 x.2.2) : sProp 𝕄)) ⊢ cellInv ER (sched A) (κ (cell n k i)) (cell n k i) from
    bigSep_elim (Finset.mem_univ (n, k, i))) $$ H

/-- A family over the transfer cells of a device. -/
abbrev rows (Φ : Fin 12 → Fin 8 → sProp 𝕄) : sProp 𝕄 := bigSep Finset.univ fun x : Fin 12 × Fin 8 => Φ x.1 x.2

theorem rows_fupd {R : sProp 𝕄} [BI.Persistent R] {Φ Ψ : Fin 12 → Fin 8 → sProp 𝕄}
    (h : ∀ k i, iprop(R ∗ Φ k i) ⊢ |={Set.univ}=> Ψ k i) : iprop(R ∗ rows Φ) ⊢ |={Set.univ}=> rows Ψ :=
  (bigSep_with_persistent fun x _ => h x.1 x.2).trans (bigSep_fupd Finset.univ fun x : Fin 12 × Fin 8 => Ψ x.1 x.2)

theorem open_cells (κ : GSem nD τ sig → ℕ) (c : Dev nD) :
    iprop(invs A κ ∗ rows fun k i => iprop(openTok ER (cell c k i) ∗ semVal (cell c k i) 0))
      ⊢ |={Set.univ}=> rows fun k i => iprop(at0 c k i ∗ reached ER (cell c k i) 0) :=
  rows_fupd fun k i => by
    iintro ⟨#H, Ho, Hs⟩
    iapply (Rounds.cell_open ER (sched A) (g := cell c k i) (Set.mem_univ (κ (cell c k i))))
    isplitr; · iapply (invs_cell A κ c k i); iexact H
    isplitl [Ho] <;> iassumption

theorem close_cells (κ : GSem nD τ sig → ℕ) (c : Dev nD) :
    iprop(ctx A κ c ∗ rows fun k i => at1 c k i) ⊢ |={Set.univ}=> rows fun k i => semVal (cell c k i) 0 :=
  rows_fupd fun k i => by
    iintro ⟨#H, Ha⟩
    iapply (Rounds.cell_close ER (sched A) (g := cell c k i) (Set.mem_univ (κ (cell c k i))) id (duties_later A _))
    isplitr; · iapply (ctx_cell A κ c c k i); iexact H
    iexact Ha

theorem close_bar (κ : GSem nD τ sig → ℕ) (c : Dev nD) :
    iprop(ctx A κ c ∗ atPos ER (barCell c) (0 + 1) ∅ 0) ⊢ |={Set.univ}=> semVal (barCell c) 0 := by
  iintro ⟨#H, Ha⟩
  iapply (Rounds.cell_close ER (sched A) (g := barCell c) (Set.mem_univ (κ (barCell c))) id (duties_later A _))
  isplitr; · iapply (ctx_bar A κ c c); iexact H
  iexact Ha

/-! ## The tokens -/

theorem around (e : Dev nD → Dev nD) (he : ∀ c, e (e c) = c) (Φ : Dev nD → sProp 𝕄) :
    bigSep Finset.univ Φ = bigSep Finset.univ fun c => Φ (e c) :=
  bigSep_univ_equiv ⟨e, e, he, he⟩ Φ

theorem sendTok_all (c : Dev nD) : bigSep Finset.univ (SendTok c) = (iprop((all (tok c 3) ∗ all (tok (xP c) 8))
    ∗ (all (tok c 4) ∗ all (tok (yP c) 9)) ∗ (all (tok c 5) ∗ all (tok (dP c) 10))) : sProp 𝕄) := by
  show (all fun i => SendTok c i) = _
  simp only [SendTok, bigSep_sep']

/-- The tokens of a device's own cells. -/
def toks (c : Dev nD) : sProp 𝕄 :=
  iprop((bigSep Finset.univ fun d : Fin 4 => dutyTok ER (barCell c) 0 d) ∗ rows fun k i => tok c k i)

/-- Each goes to the device that pays it. -/
theorem toks_around : bigSep Finset.univ (fun c : Dev nD => (toks c : sProp 𝕄)) ⊢ bigSep Finset.univ fun c : Dev nD => Toks c := by
  have e (c : Dev nD) : (toks c : sProp 𝕄) = iprop((dutyTok ER (barCell c) 0 (0 : Fin 4) ∗ dutyTok ER (barCell c) 0 (1 : Fin 4)
      ∗ dutyTok ER (barCell c) 0 (2 : Fin 4) ∗ dutyTok ER (barCell c) 0 (3 : Fin 4))
      ∗ all (tok c 0) ∗ all (tok c 1) ∗ all (tok c 2) ∗ all (tok c 3) ∗ all (tok c 4) ∗ all (tok c 5) ∗ all (tok c 6) ∗ all (tok c 7)
      ∗ all (tok c 8) ∗ all (tok c 9) ∗ all (tok c 10) ∗ all (tok c 11)) := by
    unfold toks rows
    rw [cells_all (fun k i => tok c k i), bigSep_univ_eq_bigSepL [(0 : Fin 4), 1, 2, 3] (by decide) (by decide)]
    rfl
  unfold Toks BarT
  simp only [sendTok_all]
  rw [bigSep_congr (fun c _ => e c)]
  simp only [bigSep_sep']
  rw [around zP zP_zP (fun c : Dev nD => (dutyTok ER (barCell c) 0 (0 : Fin 4) : sProp 𝕄)),
    around xP xP_xP (fun c : Dev nD => (dutyTok ER (barCell c) 0 (1 : Fin 4) : sProp 𝕄)),
    around yP yP_yP (fun c : Dev nD => (dutyTok ER (barCell c) 0 (2 : Fin 4) : sProp 𝕄)),
    around dP dP_dP (fun c : Dev nD => (dutyTok ER (barCell c) 0 (3 : Fin 4) : sProp 𝕄)),
    around zP zP_zP (fun c : Dev nD => (all (tok c 7) : sProp 𝕄)), around xP xP_xP (fun c : Dev nD => (all (tok c 8) : sProp 𝕄)),
    around yP yP_yP (fun c : Dev nD => (all (tok c 9) : sProp 𝕄)), around dP dP_dP (fun c : Dev nD => (all (tok c 10) : sProp 𝕄)),
    around zP zP_zP (fun c : Dev nD => (all (tok c 11) : sProp 𝕄))]
  iintro ⟨⟨B0, B1, B2, B3⟩, T0, T1, T2, T3, T4, T5, T6, T7, T8, T9, T10, T11⟩
  isplitl [B0 B1 B2 B3]
  · isplitl [B0]; · iexact B0
    isplitl [B1]; · iexact B1
    isplitl [B2] <;> iassumption
  isplitl [T0]; · iexact T0
  isplitl [T1]; · iexact T1
  isplitl [T2 T7]; · isplitl [T2] <;> iassumption
  isplitr [T6 T11]
  · isplitl [T3 T8]; · isplitl [T3] <;> iassumption
    isplitl [T4 T9]; · isplitl [T4] <;> iassumption
    isplitl [T5] <;> iassumption
  isplitl [T6] <;> iassumption

/-! ## The credits -/

theorem csem_inj : Function.Injective fun x : Fin 12 × Fin 8 => csem x.1 x.2 := fun x y h =>
  Prod.ext (by rw [← ckOf_csem x.1 x.2, ← ckOf_csem y.1 y.2]; exact congrArg ckOf h)
    (by rw [← ciOf_csem x.1 x.2, ← ciOf_csem y.1 y.2]; exact congrArg ciOf h)
theorem cell_inj {c n : Dev nD} {k k' : Fin 12} {i i' : Fin 8} (h : cell c k i = cell n k' i') : c = n ∧ k = k' ∧ i = i' := by
  have h1 : c = n := congrArg (fun g : GSem nD τ sig => g.1.1) h
  have h2 : csem k i = csem k' i' := SemLoc.dma.inj (congrArg Prod.snd h)
  have := csem_inj (a₁ := (k, i)) (a₂ := (k', i')) h2
  exact ⟨h1, congrArg Prod.fst this, congrArg Prod.snd this⟩

theorem chan_cell (n c : Dev nD) (k k' : Fin 12) (i : Fin 8) :
    chan n k 0 (cell c k' i) () = if n = c then (if k = k' then amt k' else 0) else 0 := by
  unfold chan
  rw [Finset.filter_true_of_mem fun _ _ => Nat.zero_le _, Finset.sum_apply, Finsupp.finset_sum_apply,
    Finset.sum_congr (g := fun i' : Fin 8 => if i' = i then (if n = c then (if k = k' then amt k' else 0) else 0) else 0) rfl fun i' _ => ?_,
    Finset.sum_ite_eq' Finset.univ i, if_pos (Finset.mem_univ _)]
  rw [tallyAt_apply]
  by_cases hi : i' = i
  · by_cases hn : n = c
    · by_cases hk : k = k'
      · subst hi hn hk; simp
      · rw [if_neg fun h => hk (cell_inj h.1).2.1.symm, if_pos hi, if_pos hn, if_neg hk]
    · rw [if_neg fun h => hn (cell_inj h.1).1.symm, if_pos hi, if_neg hn]
  · rw [if_neg fun h => hi (cell_inj h.1).2.2.symm, if_neg hi]

theorem bar_ne_cell (c n : Dev nD) (k : Fin 12) (i : Fin 8) : barCell c ≠ cell n k i := fun h =>
  nomatch (congrArg Prod.snd h : (SemLoc.reg barS : SemLoc sig) = .dma (csem k i))

theorem chan_bar (n c : Dev nD) (k : Fin 12) : chan n k 0 (barCell c) () = 0 := by
  unfold chan
  rw [Finset.sum_apply, Finsupp.finset_sum_apply]
  exact Finset.sum_eq_zero fun i _ => by rw [tallyAt_apply, if_neg fun h => bar_ne_cell _ _ _ _ h.1]

theorem bar_bar (n c : Dev nD) : tallyAt (barCell n) () 1 (barCell c) () = if n = c then 1 else 0 := by
  rw [tallyAt_apply]
  by_cases h : n = c
  · subst h; simp
  · rw [if_neg h, if_neg fun e => h (congrArg (fun g : GSem nD τ sig => g.1.1) e.1).symm]
theorem bar_cell (n c : Dev nD) (k : Fin 12) (i : Fin 8) : tallyAt (barCell n) () 1 (cell c k i) () = 0 := by
  rw [tallyAt_apply, if_neg fun h => bar_ne_cell _ _ _ _ h.1.symm]

/-- Every device is the neighbour of one. -/
theorem sum_around (e : Dev nD → Dev nD) (he : ∀ c, e (e c) = c) (c : Dev nD) (n : ℕ) : (∑ d, if e d = c then n else 0) = n := by
  rw [Finset.sum_congr (g := fun d => if d = e c then n else 0) rfl fun d _ => ?_, Finset.sum_ite_eq' Finset.univ (e c), if_pos (Finset.mem_univ _)]
  exact if_congr ⟨fun h => by rw [← h, he], fun h => by rw [h, he]⟩ rfl rfl

theorem owed_bar (c : Dev nD) : (∑ d, O₀ d (barCell c) ()) = 4 := by
  have e (d : Dev nD) : O₀ d (barCell c) () = (if dP d = c then 1 else 0) + (if yP d = c then 1 else 0) + (if xP d = c then 1 else 0)
      + (if zP d = c then 1 else 0) := by
    unfold O₀ OF OS OZ OB
    simp only [Pi.add_apply, Finsupp.add_apply, chan_bar, bar_bar, Nat.zero_add]
  rw [Finset.sum_congr rfl fun d _ => e d]
  simp only [Finset.sum_add_distrib, sum_around dP dP_dP, sum_around yP yP_yP, sum_around xP xP_xP, sum_around zP zP_zP]

theorem owed_cell (c : Dev nD) (k : Fin 12) (hk : 7 ≤ k.val) (i : Fin 8) : (∑ d, O₀ d (cell c k i) ()) = amt k := by
  have e (d : Dev nD) : O₀ d (cell c k i) () = (if zP d = c then (if 11 = k then amt k else 0) else 0)
      + ((if dP d = c then (if 10 = k then amt k else 0) else 0) + (if yP d = c then (if 9 = k then amt k else 0) else 0)
        + (if xP d = c then (if 8 = k then amt k else 0) else 0)) + (if zP d = c then (if 7 = k then amt k else 0) else 0) := by
    unfold O₀ OF OS OZ OB
    simp only [Pi.add_apply, Finsupp.add_apply, chan_cell, bar_cell, Nat.add_zero]
  rw [Finset.sum_congr rfl fun d _ => e d]
  simp only [Finset.sum_add_distrib, sum_around dP dP_dP, sum_around yP yP_yP, sum_around xP xP_xP, sum_around zP zP_zP]
  have : k = 7 ∨ k = 8 ∨ k = 9 ∨ k = 10 ∨ k = 11 := by clear e; revert k; decide
  rcases this with rfl | rfl | rfl | rfl | rfl <;> simp

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, owed_bar]
theorem launch_cell (c : Dev nD) (k : Fin 12) (hk : 7 ≤ k.val) (i : Fin 8) :
    tallyOn (cell c k i) (launchCredit (Pipeline.owing O₀) 0 (cell c k i)) = (tallyAt (cell c k i) () (amt k) : CellTallies nD τ sig Unit) := by
  unfold tallyAt; refine congrArg _ (Finsupp.ext fun u => ?_); cases u
  rw [Pipeline.launchCredit_owing, Finsupp.single_eq_same, owed_cell c k hk i]

def osemEmb : Fin 12 × Fin 8 ↪ SemLoc sig := ⟨osem, fun _ _ h => csem_inj (SemLoc.dma.inj h)⟩

theorem creds (c : Dev nD) : (Pipeline.launchCred O₀ c : sProp 𝕄) ⊢ Crds c := by
  unfold Pipeline.launchCred Crds
  rw [bigSep_univ_at _ (SemLoc.reg barS), launch_bar]
  refine sep_mono_right ((bigSep_subset (t := Finset.univ.map osemEmb) fun s hs => Finset.mem_erase.mpr ⟨?_, Finset.mem_univ _⟩).trans ?_)
  · obtain ⟨x, -, rfl⟩ := Finset.mem_map.mp hs
    exact nofun
  rw [bigSep_map]
  have e (k : Fin 12) (hk : 7 ≤ k.val) : (all fun i => cred (tallyOn (cell c k i) (launchCredit (Pipeline.owing O₀) 0 (cell c k i))))
      = (all (crd c k) : sProp 𝕄) := bigSep_congr fun i _ => by rw [launch_cell c k hk i]
  have h := cells_all (F := F) fun k i => cred (tallyOn (cell c k i) (launchCredit (Pipeline.owing O₀) 0 (cell c k i)))
  refine (Entails.of_eq h).trans ?_
  rw [e 7 (by decide), e 8 (by decide), e 9 (by decide), e 10 (by decide), e 11 (by decide)]
  iintro ⟨-, -, -, -, -, -, -, C7, C8, C9, C10, C11⟩
  isplitl [C7]; · iexact C7
  isplitl [C8]; · iexact C8
  isplitl [C9]; · iexact C9
  isplitl [C10] <;> iassumption

end Cert.KernelIdeal.Gen

end
-- ==== Proof.Data.lean ====
module

public import proofs.«01_k».proof.Proof.Deal
public import proofs.«01_k».proof.Proof.Gen.KernelIdeal.Frame
public import Idealize.ShloMosaic.Lib.Pipeline.RegionTalk

@[expose] public section

/-! # The kernel as the pipeline calls it

What the buffers hold before and after, what a device takes into the kernel and what it gives back. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The arguments at launch. -/
def argsOf : Args F where
  P c := m ((c : Thread nD τ).loc main_arg0)
  R c := m ((c : Thread nD τ).loc main_arg1)
  G c := iblk m c 0 t0_0

def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v2) (outV (argsOf m) c)

theorem V₁_arg0 (c : Dev nD) : V₁ m c main_arg0 = m ((c : Thread nD τ).loc main_arg0) := V_main_arg0 m c
theorem V₁_arg1 (c : Dev nD) : V₁ m c main_arg1 = m ((c : Thread nD τ).loc main_arg1) := V_main_arg1 m c
theorem V₁_arg2 (c : Dev nD) : V₁ m c main_arg2 = m ((c : Thread nD τ).loc main_arg2) := V_main_arg2 m c
theorem V₂_v2 (c : Dev nD) : V₂ m c main_v2 = outV (argsOf m) c := Function.update_self _ _ _
theorem V₂_ne (c : Dev nD) {b : Ref sig .tc} (h : (Proc.devRef .tc b : DevRef τ sig) ≠ Proc.devRef .tc main_v2) : V₂ m c b = V₁ m c b :=
  Function.update_of_ne h _ _

/-- The unscoped buffers; the windows' arrays; the arguments; the arguments the kernel reads itself. -/
def bufs : Finset (DevRef τ sig) := (StableHlo.tcRefs τ sig).filter fun b => ¬ b.isScoped
def argBufs : Finset (DevRef τ sig) := {Proc.devRef .tc main_arg0, Proc.devRef .tc main_arg1, Proc.devRef .tc main_arg2}
def ownBufs : Finset (DevRef τ sig) := {Proc.devRef .tc main_arg0, Proc.devRef .tc main_arg1}
theorem ownBufs_sub : ownBufs ⊆ argBufs := by decide

abbrev pt (c : Dev nD) (b : Ref sig .tc) (f : Buf (Elt F) ((c : Thread nD τ).loc b)) : sProp 𝕄 := ((c : Thread nD τ).loc b) ↦{fullShare} f

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
theorem held_bufs (c : Dev nD) (W : Valuation τ sig (Elt F)) : (StableHlo.held (c : Thread nD τ) bufs W : sProp 𝕄)
    = iprop(pt c main_arg0 (W main_arg0) ∗ pt c main_arg1 (W main_arg1) ∗ pt c main_arg2 (W main_arg2) ∗ pt c main_v1 (W main_v1) ∗ pt c main_v2 (W main_v2)) := by
  unfold StableHlo.held
  rw [bigSep_eq_bigSepL_of_eq [Proc.devRef .tc main_arg0, Proc.devRef .tc main_arg1, Proc.devRef .tc main_arg2, Proc.devRef .tc main_v1, Proc.devRef .tc main_v2]
    (by decide) (by decide)]
  rfl
theorem held_args (c : Dev nD) (W : Valuation τ sig (Elt F)) : (StableHlo.held (c : Thread nD τ) argBufs W : sProp 𝕄)
    = iprop(pt c main_arg0 (W main_arg0) ∗ pt c main_arg1 (W main_arg1) ∗ pt c main_arg2 (W main_arg2)) := by
  unfold StableHlo.held
  rw [bigSep_eq_bigSepL_of_eq [Proc.devRef .tc main_arg0, Proc.devRef .tc main_arg1, Proc.devRef .tc main_arg2] (by decide) (by decide)]
  rfl
theorem held_own (c : Dev nD) (W : Valuation τ sig (Elt F)) : (StableHlo.held (c : Thread nD τ) ownBufs W : sProp 𝕄)
    = iprop(pt c main_arg0 (W main_arg0) ∗ pt c main_arg1 (W main_arg1)) := by
  unfold StableHlo.held
  rw [bigSep_eq_bigSepL_of_eq [Proc.devRef .tc main_arg0, Proc.devRef .tc main_arg1] (by decide) (by decide)]
  rfl
theorem held_arr (c : Dev nD) (W : Valuation τ sig (Elt F)) : (StableHlo.held (c : Thread nD τ) (Pipeline.arrRefs (τ := τ) spec0) W : sProp 𝕄)
    = iprop(pt c main_v1 (W main_v1) ∗ pt c main_v2 (W main_v2)) := by
  unfold StableHlo.held
  rw [bigSep_eq_bigSepL_of_eq [Proc.devRef .tc main_v1, Proc.devRef .tc main_v2] (by decide) (by decide)]
  rfl
theorem five (a b c d e : sProp 𝕄) : iprop(a ∗ b ∗ c ∗ d ∗ e) = iprop((d ∗ e) ∗ a ∗ b ∗ c) := by
  have h1 : iprop(a ∗ b ∗ c ∗ d ∗ e) ⊢ iprop((d ∗ e) ∗ a ∗ b ∗ c) := by
    iintro ⟨H0, H1, H2, H3, H4⟩
    isplitl [H3 H4]; · isplitl [H3] <;> iassumption
    isplitl [H0]; · iexact H0
    isplitl [H1] <;> iassumption
  have h2 : iprop((d ∗ e) ∗ a ∗ b ∗ c) ⊢ iprop(a ∗ b ∗ c ∗ d ∗ e) := by
    iintro ⟨⟨H3, H4⟩, H0, H1, H2⟩
    isplitl [H0]; · iexact H0
    isplitl [H1]; · iexact H1
    isplitl [H2]; · iexact H2
    isplitl [H3] <;> iassumption
  exact BI.equiv_iff.mp ⟨h1, h2⟩
/-- Before the kernel and after it, from and to all unscoped buffers. -/
theorem held_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) argBufs W) := by
  rw [held_bufs, held_args, held_arr]
  exact five _ _ _ _ _

theorem unscopedSems_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## The kernel's proof data -/

/-- What a device holds of the protocol when the kernel runs. -/
def X1 (c : Dev nD) : sProp 𝕄 :=
  iprop((∃ κ, ctx (argsOf m) κ c) ∗ Toks c ∗ (rows fun k i => at0 c k i) ∗ atPos ER (barCell c) 0 ∅ 0 ∗ Crds c)
def Φ0 (c : Dev nD) : sProp 𝕄 := iprop(X1 m c ∗ Ops (argsOf m) c ∗ Scr c ∗ ∃ r, prngReg c r)
def Φ1 (c : Dev nD) : sProp 𝕄 :=
  iprop(semVal (barCell c) 0 ∗ Ops (argsOf m) c ∗ (rows fun k i => semVal (cell c k i) 0) ∗ Scr c ∗ ∃ r, prngReg c r)

/-- Window 1 ends at the result; every device owes its units before the kernel and nothing after. -/
def dat (c : Dev nD) : Dat τ (Elt F) Unit ℕ UU ℕ cfg0 c where
  A w := V m c (Pipeline.arrRef spec0 w)
  after w t := match w with
    | ⟨0, _⟩ => iblk m c 0 t
    | ⟨1, _⟩ => outV (argsOf m) c
    | ⟨_ + 2, h⟩ => absurd h (Nat.not_lt.2 (Nat.le_add_left _ _))
  Φ t := if t.val = 0 then Φ0 m c else Φ1 m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

theorem share_full (c : Dev nD) (w : Fin 2) : (dat m c).share w = fullShare := by unfold Dat.share; split <;> rfl
theorem Φ_first (c : Dev nD) : (dat m c).Φ t0_0.castSucc = Φ0 m c := rfl
theorem Φ_last (c : Dev nD) : (dat m c).Φ t0_0.succ = Φ1 m c := rfl
theorem after_0 (c : Dev nD) : (dat m c).after (0 : Fin 2) t0_0 = iblk m c 0 t0_0 := rfl
theorem after_1 (c : Dev nD) : (dat m c).after (1 : Fin 2) t0_0 = outV (argsOf m) c := rfl
theorem owed_first (c : Dev nD) : (dat m c).owed t0_0.castSucc = O₀ c := rfl
theorem owed_last (c : Dev nD) : (dat m c).owed t0_0.succ = 0 := rfl

theorem owesAt_in (c : Dev nD) (t : Fin (cfg0.N + 1)) (O : CellTallies nD τ sig Unit) (h : (dat m c).owed t = O) :
    (ow c O : sProp 𝕄) ⊢ (dat m c).owesAt () t := by
  unfold Dat.owesAt Pipeline.owesWithin Dat.bound; rw [h]
  iintro ⟨%W, HO⟩
  iexists W
  isplitr; · ipureintro; exact fun _ _ => Or.inl trivial
  iexact HO
theorem owesAt_out (c : Dev nD) (t : Fin (cfg0.N + 1)) (O : CellTallies nD τ sig Unit) (h : (dat m c).owed t = O) :
    (dat m c).owesAt () t ⊢ (ow c O : sProp 𝕄) := by
  unfold Dat.owesAt Pipeline.owesWithin; rw [h]
  iintro ⟨%W, -, HO⟩
  iexists W; iexact HO

/-- What the body takes and gives back, as the pipeline states it. -/
def obPre (c : Dev nD) : sProp 𝕄 :=
  iprop(Φ0 m c ∗ (dat m c).owesAt () t0_0.castSucc
    ∗ (∃ d, ∃ f : Buf (Elt F) ((c : Thread nD τ).loc cc0_stg0_0), ⌜f = (dat m c).before (0 : Fin 2) t0_0 d⌝ ∗ pt c cc0_stg0_0 f)
    ∗ (∃ d, ∃ f : Buf (Elt F) ((c : Thread nD τ).loc cc0_stg1_0), ⌜f = (dat m c).before (1 : Fin 2) t0_0 d⌝ ∗ pt c cc0_stg1_0 f))
def obPost (c : Dev nD) : sProp 𝕄 :=
  iprop(Φ1 m c ∗ (dat m c).owesAt () t0_0.succ
    ∗ (∃ f : Buf (Elt F) ((c : Thread nD τ).loc cc0_stg0_0), ⌜f = iblk m c 0 t0_0⌝ ∗ pt c cc0_stg0_0 f)
    ∗ (∃ f : Buf (Elt F) ((c : Thread nD τ).loc cc0_stg1_0), ⌜f = outV (argsOf m) c⌝ ∗ pt c cc0_stg1_0 f))

theorem gam_eq (c : Dev nD) : gam (argsOf m) c = pt c cc0_stg0_0 (iblk m c 0 t0_0) := by
  unfold gam pts
  rw [(Memref.isWhole_whole _).set_eq_univ]
  rfl

theorem ob_in (c : Dev nD) : obPre m c ⊢ iprop(∃ κ, ctx (argsOf m) κ c ∗ bodyPre (argsOf m) c ∗ ∃ r, prngReg c r) := by
  unfold obPre Φ0 X1 bodyPre
  iintro ⟨⟨⟨⟨%κ, Hc⟩, Ht, Ha, Hab, Hcr⟩, Ho, Hs, Hp⟩, HO, ⟨%d0, %g0, %hg0, Hx⟩, ⟨%d1, %g1, -, Hy⟩⟩
  have hx : g0 = iblk m c 0 t0_0 := by rw [hg0]; unfold Dat.before; rw [if_pos (fetch0_0 t0_0)]; rfl
  subst hx
  ihave HO := (owesAt_out m c _ _ (owed_first m c)) $$ HO
  iexists κ
  isplitl [Hc]; · iexact Hc
  isplitr [Hp]
  · isplitl [Ho]; · iexact Ho
    isplitl [Hx]; · rw [gam_eq]; iexact Hx
    isplitl [Hs]; · iexact Hs
    isplitl [Hy]; · iexists g1; iexact Hy
    isplitl [Ht]; · iexact Ht
    isplitl [Ha]; · iexact Ha
    isplitl [Hab]; · iexact Hab
    isplitl [Hcr] <;> iassumption
  iexact Hp

theorem ob_out (κ : GSem nD τ sig → ℕ) (c : Dev nD) :
    iprop(ctx (argsOf m) κ c ∗ bodyPost (argsOf m) c ∗ ∃ r, prngReg c r) ⊢ |={Set.univ}=> obPost m c := by
  unfold bodyPost obPost Φ1
  iintro ⟨#Hc, ⟨Ho, Hg, Hs, Hy, Ha, Hab, HO⟩, Hp⟩
  imod (close_cells (argsOf m) κ c) $$ [Ha] with Hz
  · isplitr; · iexact Hc
    iexact Ha
  imod (close_bar (argsOf m) κ c) $$ [Hab] with Hzb
  · isplitr; · iexact Hc
    iexact Hab
  imodintro
  isplitr [HO Hg Hy]
  · isplitl [Hzb]; · iexact Hzb
    isplitl [Ho]; · iexact Ho
    isplitl [Hz]; · iexact Hz
    isplitl [Hs] <;> iassumption
  isplitl [HO]; · iapply (owesAt_in m c _ _ (owed_last m c)) $$ HO
  isplitl [Hg]
  · iexists _; isplitr; · (ipureintro; rfl)
    iapply (Entails.of_eq (gam_eq m c)) $$ Hg
  iexists _; isplitr; · (ipureintro; rfl)
  iexact Hy

theorem sound (c : Dev nD) : obPre m c ⊢ WP c (body (F := F)) (fun _ => obPost m c) := by
  iintro H
  ihave H := (ob_in m c) $$ H
  icases H with ⟨%κ, #Hc, Hb, Hp⟩
  iapply (body_run (argsOf m) κ c _) $$ [Hb]
  · isplitr; · iexact Hc
    iexact Hb
  iintro Hb
  iapply (ob_out m κ c)
  isplitr; · iexact Hc
  isplitl [Hb] <;> iassumption

/-- The printed body at the grid's point. -/
theorem entry_eq : defs₀ (F := F) .tc cfg0.body (cfg0.bodyArgs t0_0 (cfg0.slots t0_0)) = body (F := F) := by
  unfold defs₀; rw [Defs.onTc_tc]; exact body_eq

theorem body_ob (c : Dev nD) : BodyObligation (dat m c) (defs₀ (F := F)) 𝒱₀ () Set.univ := fun t => by
  obtain rfl := fin_N0 t
  rw [bigSep_W0, bigSep_W0, entry_eq]
  simp only [owns_whole_eq]
  rw [Φ_first, Φ_last, after_0, after_1]
  have h := sound m c
  unfold obPre obPost WP at h
  convert h using 1

end Cert.KernelIdeal.Gen

end
-- ==== Proof.Launch.lean ====
module

public import proofs.«01_k».proof.Proof.Data
public import Idealize.ShloMosaic.Lib.Pipeline.ValueKit.Geometry
public import Idealize.ShloMosaic.Lib.Pipeline.RegionTalk

@[expose] public section

/-! # The run of the program

One host operation lays out the weight, then the kernel. Every weakly fair execution ends with the arguments unchanged, the
result `outV` on every device, and every semaphore at zero. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The kernel as a segment -/

theorem arr_first (c : Dev nD) (w : Fin 2) : (dat m c).arrAt w 0 = V₁ m c (Proc.devRef .tc (Pipeline.arrRef spec0 w)) := rfl

theorem arr_last_in (c : Dev nD) : (dat m c).arrAt (0 : Fin 2) cfg0.N = V₂ m c main_v1 :=
  ((dat m c).arrAt_in (0 : Fin 2) rfl _).trans (V₂_ne m c (by decide)).symm
theorem arr_last_out (c : Dev nD) : (dat m c).arrAt (1 : Fin 2) cfg0.N = V₂ m c main_v2 := by
  rw [V₂_v2]
  exact (dat m c).arrAt_eq_of_after_last (1 : Fin 2) t0_0 (by decide +kernel) (outV (argsOf m) c) fun j => rfl
theorem arr_last (c : Dev nD) (w : Fin 2) : (dat m c).arrAt w cfg0.N = V₂ m c (Proc.devRef .tc (Pipeline.arrRef spec0 w)) :=
  match w with
  | ⟨0, _⟩ => arr_last_in m c
  | ⟨1, _⟩ => arr_last_out m c
  | ⟨_ + 2, h⟩ => absurd h (Nat.not_lt.2 (Nat.le_add_left _ _))

/-- What the launch gives a device for the kernel, what opening the cells makes of it, and what is left. -/
def ghost (κ : GSem nD τ sig → ℕ) (c : Dev nD) : sProp 𝕄 :=
  iprop(invs (argsOf m) κ ∗ (rows fun k i => openTok ER (cell c k i)) ∗ atPos ER (barCell c) 0 ∅ 0 ∗ Toks c)
def Tk (c : Dev nD) : sProp 𝕄 := iprop((∃ κ, ghost m κ c) ∗ Crds c)
def Yk (c : Dev nD) : sProp 𝕄 := semVal (barCell c) 0

theorem ctx_intro (κ : GSem nD τ sig → ℕ) (c : Dev nD) :
    iprop(invs (argsOf m) κ ∗ (rows fun k i => reached ER (cell c k i) 0) ∗ levAts L lv) ⊢ ctx (argsOf m) κ c := by
  unfold invs ctx
  iintro ⟨⟨#H1, #H2, #H3⟩, #H4, #H5⟩
  isplitr; · iexact H1
  isplitr; · iexact H2
  isplitr; · iexact H3
  isplitr; · iexact H4
  iexact H5

theorem ownSems_rows (c : Dev nD) : (Pipeline.ownSems0 osem c : sProp 𝕄) = rows fun k i => semVal (cell c k i) 0 := rfl

theorem opens (c : Dev nD) : iprop(Tk m c ∗ Pipeline.ownSems0 osem c ∗ levAts L lv) ⊢ (|={Set.univ}=> X1 m c : sProp 𝕄) := by
  rw [ownSems_rows]
  unfold Tk ghost X1
  iintro ⟨⟨⟨%κ, #HI, Ho, Hb, Ht⟩, Hc⟩, Hs, #Hl⟩
  imod (open_cells (argsOf m) κ c) $$ [Ho Hs] with H
  · isplitr; · iexact HI
    rw [show (rows fun k i => iprop(openTok ER (cell c k i) ∗ semVal (cell c k i) 0) : sProp 𝕄)
      = iprop((rows fun k i => openTok ER (cell c k i)) ∗ rows fun k i => semVal (cell c k i) 0) from bigSep_sep' _ _ _]
    isplitl [Ho] <;> iassumption
  ihave H := (Entails.of_eq (show (rows fun k i => iprop(at0 c k i ∗ reached ER (cell c k i) 0) : sProp 𝕄)
      = iprop((rows fun k i => at0 c k i) ∗ rows fun k i => reached ER (cell c k i) 0) from bigSep_sep' _ _ _)) $$ H
  icases H with ⟨Ha, Hr⟩
  imodintro
  isplitl [Hr]
  · iexists κ
    iapply (ctx_intro m κ c)
    isplitr; · iexact HI
    isplitl [Hr]; · iexact Hr
    iexact Hl
  isplitl [Ht]; · iexact Ht
  isplitl [Ha]; · iexact Ha
  isplitl [Hb] <;> iassumption

theorem enters (c : Dev nD) : iprop(Pipeline.scopedRest spec0 c ∗ (∃ r, prngReg c r) ∗ StableHlo.held (c.tc : Thread nD τ) ownBufs (V₁ m c) ∗ X1 m c)
    ⊢ Φ0 m c := by
  rw [scopedRest0_eq, held_own, V₁_arg0, V₁_arg1]
  unfold Φ0 Ops Scr anyB
  iintro ⟨Hs, Hp, Ho, HX⟩
  isplitl [HX]; · iexact HX
  isplitl [Ho]; · iexact Ho
  isplitl [Hs] <;> iassumption

theorem leaves (c : Dev nD) : Φ1 m c ⊢ iprop(Pipeline.scopedRest spec0 c ∗ (∃ r, prngReg c r)
    ∗ StableHlo.held (c.tc : Thread nD τ) ownBufs (V₂ m c) ∗ Pipeline.ownSems0 osem c ∗ Yk c) := by
  rw [scopedRest0_eq, held_own, ownSems_rows, V₂_ne m c (b := main_arg0) (by decide), V₂_ne m c (b := main_arg1) (by decide), V₁_arg0, V₁_arg1]
  unfold Φ1 Yk Ops Scr anyB
  iintro ⟨Hb, Ho, Hz, Hs, Hp⟩
  isplitl [Hs]; · iexact Hs
  isplitl [Hp]; · iexact Hp
  isplitl [Ho]; · iexact Ho
  isplitl [Hz]; · iexact Hz
  iexact Hb

/-- The staging semaphores have the lowest level; everything owed is above it. -/
theorem cut : Pipeline.LevelCutOwed (pcfgs (F := F)) adm (pdats m) () L lv 0 (fun _ => 0) where
  hι c w s := by rw [L_tc]; exact Finset.mem_singleton_self _
  hιb c w s := by
    have h : ∀ (w : Fin 2) (s : Fin (spec0 w).nbuf), ((spec0 w).sem s).val < 2 := by decide
    exact Nat.le_of_eq (if_neg (Nat.not_le.2 (h w s)))
  hD c t g u h := by
    have e : (pdats m 0 c).owed t = if t.val = 0 then O₀ c else 0 := rfl
    rw [e] at h
    split at h
    · exact Above.O₀ c Nat.zero_lt_one g u h
    · exact absurd h (Nat.lt_irrefl 0)

theorem osem_facts : Pipeline.OwnSemFacts spec0 osem := by decide +kernel

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ownBufs argBufs ownBufs_sub launch0.toP rfl (fun c => (body_ob m c).loose)
    (fun _ => 0) O₀ (fun c => (owed_first m c).trans (zero_add _).symm) (fun c => owed_last m c) (fun _ => rfl) (fun c w => share_full m c w)
    (V₁ m) (V₂ m) (fun c b hb => by
      have e : b = Proc.devRef .tc main_arg2 := by
        have h : argBufs \ ownBufs = {Proc.devRef .tc main_arg2} := by decide
        rw [h] at hb; exact Finset.mem_singleton.mp hb
      subst e; exact V₂_ne m c (by decide))
    (Tk m) Yk (X1 m) Yk (opens m) (enters m) (leaves m) (fun c => by iintro H; imodintro; iexact H)
    (fun _ => 0) (cut m) (fun _ => iprop(emp)) (arr_first m) (arr_last m)

/-! ## Before and after the kernel -/

/-- What rides beside the buffers up to the kernel. -/
def Rd (c : Dev nD) : sProp 𝕄 := iprop((∃ r, prngReg c r) ∗ Tk m c ∗ ow c (O₀ c))

theorem region_pre (c : Dev nD) : iprop(StableHlo.held (c : Thread nD τ) bufs (V₁ m c) ∗ Rd m c) ⊢ (region m).pre c := by
  show _ ⊢ iprop(StableHlo.held (c.tc : Thread nD τ) (Pipeline.arrRefs (τ := τ) spec0) (V₁ m c) ∗ (∃ r, prngReg c r)
    ∗ (StableHlo.held (c.tc : Thread nD τ) argBufs (V₁ m c) ∗ emp) ∗ Tk m c ∗ ∃ Wd, owes (c : Thread nD τ) (0 + O₀ c) Wd)
  rw [held_split, zero_add]
  unfold Rd
  iintro ⟨⟨Ha, Hh⟩, Hp, HT, HO⟩
  isplitl [Ha]; · iexact Ha
  isplitl [Hp]; · iexact Hp
  isplitl [Hh]
  · isplitl [Hh]; · iexact Hh
    iempintro
  isplitl [HT] <;> iassumption

abbrev Tend (c : Dev nD) : sProp 𝕄 := iprop(StableHlo.held (c : Thread nD τ) bufs (V₂ m c) ∗ semVal (barCell c) 0)
theorem region_post (c : Dev nD) : (region m).post c ⊢ iprop(Tend m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) argBufs (V₂ m c) ∗ emp) ∗ Yk c ∗ ∃ Wd, owes (c : Thread nD τ) (0 : CellTallies nD τ sig Unit) Wd) ⊢ _
  unfold Tend
  rw [held_split]
  unfold Yk
  iintro ⟨Ha, -, ⟨Hh, -⟩, Hb, HO⟩
  isplitr [HO]
  · isplitl [Ha Hh]; · isplitl [Ha] <;> iassumption
    iexact Hb
  iexact HO

theorem hostOps0_bufs : ∀ op ∈ (hostOps0 : List (HloOp τ sig (Elt F))), op.bufs ⊆ bufs := fun op h => by
  simp only [List.mem_singleton] at h; subst h
  show ({Proc.devRef .tc main_arg2, Proc.devRef .tc main_v1} : Finset (DevRef τ sig)) ⊆ bufs; decide
def host : Pipeline.HostSeg (Name := ℕ) (U := UU) (pcfgs (F := F)) defs₀ 𝒱₀ L lv :=
  Pipeline.HostSeg.ofOps _ _ _ _ _ bufs hostOps0 hostOps0_bufs (List.forall_iff_forall_mem.mp hostOps0_fresh) (V₀ m) (Rd m)

def segs : List (Pipeline.Seg (pcfgs (F := F)) adm (pdats m) () defs₀ 𝒱₀ L lv) := [.host (host m), .region (region m)]

/-! ## The launch -/

def barEmb : Dev nD ↪ GSem nD τ sig := ⟨barCell, fun _ _ h => congrArg (fun g : GSem nD τ sig => g.1.1) h⟩
def cellEmb : Dev nD × Fin 12 × Fin 8 ↪ GSem nD τ sig :=
  ⟨fun x => cell x.1 x.2.1 x.2.2, fun _ _ h => have e := cell_inj h; Prod.ext e.1 (Prod.ext e.2.1 e.2.2)⟩
def barTok : Dev nD × Fin 4 ↪ GSem nD τ sig × ℕ × Fin 4 :=
  ⟨fun x => (barCell x.1, 0, x.2), fun _ _ h => Prod.ext (barEmb.injective (congrArg Prod.fst h)) (congrArg (fun t : GSem nD τ sig × ℕ × Fin 4 => t.2.2) h)⟩
def cellTok : Dev nD × Fin 12 × Fin 8 ↪ GSem nD τ sig × ℕ × Fin 4 :=
  ⟨fun x => (cell x.1 x.2.1 x.2.2, 0, 0), fun _ _ h => cellEmb.injective (congrArg Prod.fst h)⟩

abbrev bars : Finset (GSem nD τ sig) := Finset.univ.map barEmb
abbrev cells : Finset (GSem nD τ sig) := Finset.univ.map cellEmb
abbrev allToks : Finset (GSem nD τ sig × ℕ × Fin 4) := Finset.univ.map barTok ∪ Finset.univ.map cellTok

theorem bars_cells : Disjoint bars cells := by
  rw [Finset.disjoint_left]
  rintro g h₁ h₂
  obtain ⟨c, -, rfl⟩ := Finset.mem_map.mp h₁
  obtain ⟨x, -, h⟩ := Finset.mem_map.mp h₂
  exact bar_ne_cell _ _ _ _ h.symm
theorem toks_disjoint : Disjoint (Finset.univ.map barTok) (Finset.univ.map cellTok) := by
  rw [Finset.disjoint_left]
  rintro g h₁ h₂
  obtain ⟨c, -, rfl⟩ := Finset.mem_map.mp h₁
  obtain ⟨x, -, h⟩ := Finset.mem_map.mp h₂
  exact bar_ne_cell _ _ _ _ (congrArg Prod.fst h).symm

/-- The launch's ghost state: the pipeline's and the protocol's. -/
def u₀ : UU :=
  (Rounds.initOf (Pipeline.cells (Pipeline.pin (pcfgs (F := F)) adm) cellOf_inj) (Pipeline.launchToks (Pipeline.pin (pcfgs (F := F)) adm) cellOf_inj),
    launchOf bars cells allToks)

/-- The protocol's, all at device 0 until it is dealt. -/
def G (c : Dev nD) : sProp 𝕄 := if c = 0 then BI.own (ER (launchOf bars cells allToks)) else iprop(emp)
theorem G_all : bigSep Finset.univ (G (F := F)) = BI.own (ER (launchOf bars cells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem invs_intro (κ : GSem nD τ sig → ℕ) :
    iprop((bigSep (bars ∪ cells) fun g => cellInv ER (sched (argsOf m)) (κ g) g) ∗ bigSep bars fun g => reached ER g 0) ⊢ invs (argsOf m) κ := by
  unfold invs
  have e : (bigSep (bars ∪ cells) fun g => (cellInv ER (sched (argsOf m)) (κ g) g : sProp 𝕄))
      = iprop((bigSep bars fun g => cellInv ER (sched (argsOf m)) (κ g) g) ∗ bigSep cells fun g => cellInv ER (sched (argsOf m)) (κ g) g) :=
    bigSep_union bars_cells
  rw [e, bigSep_map, bigSep_map, bigSep_map]
  iintro ⟨⟨H1, H2⟩, H3⟩
  isplitl [H1]; · iexact H1
  isplitl [H2]; · iexact H2
  iexact H3

theorem toks_all : (bigSep allToks fun x => (dutyTok ER x.1 x.2.1 x.2.2 : sProp 𝕄)) = bigSep Finset.univ fun c : Dev nD => toks c := by
  rw [bigSep_union toks_disjoint, bigSep_map, bigSep_map, bigSep_univ_prod, bigSep_univ_prod]
  exact (bigSep_sep' _ _ _).symm
theorem open_all : (bigSep cells fun g => (openTok ER g : sProp 𝕄)) = bigSep Finset.univ fun c : Dev nD => rows fun k i => openTok ER (cell c k i) := by
  rw [bigSep_map, bigSep_univ_prod]
  rfl

/-- What of a device's launch holdings is no invariant: the protocol's, and the rest. -/
def mine (c : Dev nD) : sProp 𝕄 := iprop((rows fun k i => openTok ER (cell c k i)) ∗ atPos ER (barCell c) 0 ∅ 0 ∗ Toks c)
def rest (c : Dev nD) : sProp 𝕄 :=
  iprop(StableHlo.held (c : Thread nD τ) bufs (V₀ m c) ∗ (∃ r, prngReg c r) ∗ Crds c ∗ ow c (O₀ c))
abbrev Tst (c : Dev nD) : sProp 𝕄 := iprop(StableHlo.held (c : Thread nD τ) bufs (V₀ m c) ∗ Rd m c)

theorem Tst_intro (κ : GSem nD τ sig → ℕ) (c : Dev nD) : iprop(invs (argsOf m) κ ∗ (mine c ∗ rest m c)) ⊢ Tst m c := by
  unfold mine rest Tst Rd Tk ghost
  iintro ⟨#HI, ⟨Ho, Ha, Ht⟩, Hh, Hp, Hc, HO⟩
  isplitl [Hh]; · iexact Hh
  isplitl [Hp]; · iexact Hp
  isplitr [HO]
  · isplitr [Hc]
    · iexists κ
      isplitr; · iexact HI
      isplitl [Ho]; · iexact Ho
      isplitl [Ha] <;> iassumption
    iexact Hc
  iexact HO

theorem pair {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm
theorem unpair {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)

/-- A device's launch holdings. -/
abbrev held0 (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)
theorem held0_sort (c : Dev nD) : held0 m ρ c ⊢ iprop(rest m c ∗ (semVal (barCell c) 0 ∗ G c)) := by
  unfold held0
  rw [show unscopedBufs c (fun b => m ((c : Thread nD τ).loc b)) = StableHlo.held (c : Thread nD τ) bufs (V₀ m c) from unscoped_held c (V₀ m c),
    unscopedSems_bar]
  unfold rest
  iintro ⟨Hh, Hb, HO, Hc, Hp, HG⟩
  isplitr [Hb HG]
  · isplitl [Hh]; · iexact Hh
    isplitl [Hp]; · iexists (ρ c); iexact Hp
    isplitl [Hc]; · iapply (creds c) $$ Hc
    iexists ∅; iexact HO
  isplitl [Hb] <;> iassumption

theorem start : iprop((bigSep Finset.univ fun c : Dev nD => held0 m ρ c) ∗ levAts L lv) ⊢ (|={Set.univ}=> bigSep Finset.univ (Tst m) : sProp 𝕄) := by
  iintro ⟨H, -⟩
  ihave H := (show (bigSep Finset.univ fun c : Dev nD => held0 m ρ c) ⊢ (bigSep Finset.univ fun c : Dev nD => iprop(rest m c ∗ (semVal (barCell c) 0 ∗ G c)) : sProp 𝕄)
    from bigSep_mono fun c _ => held0_sort m ρ c) $$ H
  ihave H := unpair $$ H; icases H with ⟨HB, H⟩
  ihave H := unpair $$ H; icases H with ⟨Hv, HG⟩
  ihave Hu := (Entails.of_eq (G_all (F := F))) $$ HG
  imod (Rounds.fund_launch ER (sched (argsOf m)) bars_cells (fun g _ h => h) allToks) $$ [Hv Hu] with ⟨%κ, -, #HI, #Hr, Ha, Ho, Ht⟩
  · isplitl [Hv]
    · iapply (show (bigSep Finset.univ fun c : Dev nD => (semVal (barCell c) 0 : sProp 𝕄)) ⊢ bigSep bars fun g => semVal g 0
        from Entails.of_eq (bigSep_map (s := Finset.univ) barEmb (Φ := fun g : GSem nD τ sig => (semVal g 0 : sProp 𝕄))).symm) $$ Hv
    iexact Hu
  imodintro
  iapply (bigSep_with_persistent (R := invs (argsOf m) κ) (Φ := fun c => iprop(mine c ∗ rest m c)) fun c _ => Tst_intro m κ c)
  isplitr
  · iapply (invs_intro m κ)
    isplitr; · iexact HI
    iexact Hr
  iapply pair
  isplitr [HB]
  · unfold mine
    iapply pair; isplitl [Ho]; · iapply (Entails.of_eq (open_all (F := F))) $$ Ho
    iapply pair; isplitl [Ha]
    · iapply (show (bigSep bars fun g => (atPos ER g 0 ∅ 0 : sProp 𝕄)) ⊢ bigSep Finset.univ fun c : Dev nD => atPos ER (barCell c) 0 ∅ 0
        from Entails.of_eq (bigSep_map (s := Finset.univ) barEmb (Φ := fun g : GSem nD τ sig => (atPos ER g 0 ∅ 0 : sProp 𝕄)))) $$ Ha
    iapply (toks_around (F := F))
    iapply (Entails.of_eq (toks_all (F := F))) $$ Ht
  iexact HB

/-! ## The run -/

/-- Every weakly fair execution ends, the arguments unchanged, the result `outV` on every device, every semaphore at zero. -/
abbrev Post (r : PUnit × MemSt nD τ sig (Elt F)) : Prop :=
  (∀ c : Dev nD, (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.mem ((c : Thread nD τ).loc main_v2) = outV (argsOf m) c) ∧ r.2.sem = fun _ => 0

theorem unscoped_bar : ∀ sm : SemLoc sig, sm.isScoped .tc = false → sm = .reg barS := by decide

set_option backward.isDefEq.respectTransparency.types false in
theorem run_main : θ_run defs (onTc (τ := τ) (main (F := F))) ⟨m, fun _ => 0, ρ⟩ (Post m) :=
  Pipeline.θ_run_regions_kit_sems (pcfgs (F := F)) adm (pdats m) () cellOf_inj EP defs₀ 𝒱₀ L lv m ρ main (segs m)
    (fun c Q => by rw [main_segs adm (pdats m) () 𝒱₀ L lv (host m) (region m) rfl c]; rfl)
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      iapply (Entails.of_eq (G_all (F := F)).symm) $$ HX)
    (T₀ := Tst m) (Tₙ := Tend m)
    (hch := ⟨fun c => .rfl, fun c => region_pre m c, fun c => region_post m c⟩)
    (hinit := start m ρ)
    (QY := fun c s => ((s.mem ((c : Thread nD τ).loc main_arg0) = V₂ m c main_arg0 ∧ s.mem ((c : Thread nD τ).loc main_arg1) = V₂ m c main_arg1
        ∧ s.mem ((c : Thread nD τ).loc main_arg2) = V₂ m c main_arg2) ∧ s.mem ((c : Thread nD τ).loc main_v2) = V₂ m c main_v2) ∧ s.sem (barCell c) = 0)
    (hfin := fun c s' => by
      dsimp only [Tend]; rw [held_bufs]
      iintro ⟨⟨⟨H0, H1, H2, -, Hy⟩, Hb⟩, HSI⟩
      icombine HSI H0 gives %h0
      icombine HSI H1 gives %h1
      icombine HSI H2 gives %h2
      icombine HSI Hy gives %hy
      icombine HSI Hb gives %hb
      imodintro
      isplitr
      · ipureintro
        exact ⟨⟨⟨Buf.eq_of_forall_mem_univ h0, Buf.eq_of_forall_mem_univ h1, Buf.eq_of_forall_mem_univ h2⟩, Buf.eq_of_forall_mem_univ hy⟩, by simpa using hb⟩
      iexact HSI)
    (hQ := fun s h hs => ⟨fun c => by
        obtain ⟨⟨⟨h0, h1, h2⟩, hy⟩, -⟩ := h c
        rw [V₂_ne m c (by decide), V₁_arg0] at h0; rw [V₂_ne m c (by decide), V₁_arg1] at h1; rw [V₂_ne m c (by decide), V₁_arg2] at h2
        rw [V₂_v2] at hy
        exact ⟨⟨h0, h1, h2⟩, hy⟩,
      sem_eq_zero hs fun c sm hsm => by
        obtain rfl := unscoped_bar sm hsm
        exact (h c).2⟩)

end Cert.KernelIdeal.Gen

end
-- ==== Proof.Value.lean ====
module

public import proofs.«01_k».proof.Proof.Launch
public import proofs.«01_k».proof.Proof.Gen.ReferenceIdeal.Run
public import Idealize.ShloMosaic.Lib.LayoutAt
public import Idealize.ShloMosaic.Lib.Pointwise

@[expose] public section

noncomputable section

namespace Cert.Value

open Idealize.ShloMosaic Idealize.ShloMosaic.TcCoe

set_option maxRecDepth 16384

/-- One row normalised: its entry over the root of its mean square, times gamma's entry. -/
def nrow (y g : Fin 2048 → EReal) (l : Fin 2048) : EReal :=
  Ideal.div (y l) (Ideal.sqrt (Ideal.div (∑ k, y k * y k) (Ideal.ofBits .f32 0x45000000#32) + Ideal.ofBits .f32 0x358637BD#32)) * g l

section Reference

open Cert.ReferenceIdeal Cert.ReferenceIdeal.Gen

/-- The reference's result as a term of its three arrays. -/
def ref (P : FVec Ideal S2x2048x2048 .f32) (R : FVec Ideal S2048x2048 .f32)
    (G : FVec Ideal S2048 .f32) : FVec Ideal S2048x2048 .bf16 :=
  truncf .bf16 (mulf (Host.divf (addf (Host.reduceAdd P (constant S_ .f32 0x00000000#32) reducesTo_S2x2048x2048_S2048x2048_d0 h_S_) R) (broadcastInDim S2048x2048 ![0, 1] bcast_S2048x1_S2048x2048_0_1 (Host.sqrt (addf (Host.divf (broadcastInDim S2048x1 ![0] bcast_S2048_S2048x1_0 (Host.reduceAdd (mulf (addf (Host.reduceAdd P (constant S_ .f32 0x00000000#32) reducesTo_S2x2048x2048_S2048x2048_d0 h_S_) R) (addf (Host.reduceAdd P (constant S_ .f32 0x00000000#32) reducesTo_S2x2048x2048_S2048x2048_d0 h_S_) R)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 G))) bitsLt_bf16_f32

theorem ref_apply (P : FVec Ideal S2x2048x2048 .f32) (R : FVec Ideal S2048x2048 .f32)
    (G : FVec Ideal S2048 .f32) (a l : Fin 2048) :
    ref P R G (ix2 a l)
      = nrow (fun k => (P (ix3 0 a k) + P (ix3 1 a k)) + R (ix2 a k)) (fun k => G (ix1 k)) l := by
  pointwise [ref, nrow]
  simp only [Fin.sum_univ_two]

end Reference

section Kernel

open Cert.KernelIdeal Cert.KernelIdeal.Gen

theorem pay12_apply (p : FVec Ideal S64x2048 .f32) (z : FVec Ideal S1x64x2048 .bf16) (r : FVec Ideal S64x2048 .f32)
    (g : FVec Ideal S1x2048 .f32) (a : Fin 64) (l : Fin 2048) :
    (k0_pay12 (F := Ideal) p z r g (ix2 a l) : EReal)
      = nrow (fun k => p (ix2 a k) + z (ix3 0 a k) + r (ix2 a k)) (fun k => g (ix2 0 k)) l := by
  pointwise [k0_pay12, nrow]

/-- Row `x` of chunk `i` of a device's quarter. -/
def row (c : Dev nD) (i : Fin 8) (x : Fin 64) : Fin 2048 :=
  ⟨512 * (qd c).val + 64 * i.val + x.val, by have := (qd c).isLt; have := i.isLt; have := x.isLt; omega⟩

theorem row_zP (c : Dev nD) (i : Fin 8) (x : Fin 64) : row (zP c) i x = row c i x := by
  unfold row; simp only [qd_zP]

variable {F : FTy → Type} [FloatOps F] (A : Args F)

theorem rqv_apply (c : Dev nD) (i : Fin 8) (x : Fin 64) (k : Fin 2048) :
    rqv A c i (ix2 x k) = A.R c (ix2 (row c i x) k) := by
  show A.R c ((rC c i).view.emb (ix2 x k)) = _
  refine congrArg _ (funext fun a => Fin.ext ?_)
  have h := off2_eq c i
  have e : ∀ a, (((rC c i).view.emb (ix2 x k) : S2048x2048.Idx) a).val = k0_off2 c (cw i) a + 1 * ((ix2 x k : S64x2048.Idx) a).val := fun _ => rfl
  rw [e, h]
  fin_cases a
  · show 512 * (qd c).val + 64 * i.val + 1 * x.val = 512 * (qd c).val + 64 * i.val + x.val; omega
  · show 0 + 1 * k.val = k.val; omega

theorem pqv_apply (c : Dev nD) (i : Fin 8) (x : Fin 64) (k : Fin 2048) :
    pqv A c i (ix2 x k) = A.P c (ix3 0 (row c i x) k) := by
  show A.P c ((pC c i).view.emb (ix2 x k)) = _
  refine congrArg _ (funext fun a => Fin.ext ?_)
  have h := off1_eq c i
  have e : ∀ a, (((pC c i).view.emb (ix2 x k) : S1x2048x2048.Idx) a).val
      = k0_off1 c (cw i) a + 1 * ((Shape.reshapeEquiv squeezes_S1x64x2048_S64x2048.numel_eq (ix2 x k) : S1x64x2048.Idx) a).val := fun _ => rfl
  have hr : (Shape.reshapeEquiv squeezes_S1x64x2048_S64x2048.numel_eq (ix2 x k) : S1x64x2048.Idx) = ix3 0 x k := by
    pointwise []
  rw [e, h, hr]
  fin_cases a
  · rfl
  · show 512 * (qd c).val + 64 * i.val + 1 * x.val = 512 * (qd c).val + 64 * i.val + x.val; omega
  · show 0 + 1 * k.val = k.val; omega

theorem gv_apply (c : Dev nD) (k : Fin 2048) : gv A c (ix2 0 k) = A.G c (ix2 0 k) := by
  show A.G c _ = _
  refine congrArg _ (funext fun a => Fin.ext ?_)
  fin_cases a
  · rfl
  · show 0 + 1 * k.val = k.val; omega

variable (m : (ℓ : Loc nD τ sig) → Buf (Elt F) ℓ)

theorem gamma_apply (c : Dev nD) (k : Fin 2048) :
    (argsOf m).G c (ix2 0 k) = (m ((c : Thread nD τ).loc main_arg2) : S2048.Idx → Elt F .f32) (ix1 k) := by
  have hV : V m c main_v1 = shapeCast S1x2048 (m ((c : Thread nD τ).loc main_arg2) : S2048.Idx → Elt F .f32) shapeCasts_S2048_S1x2048 := by
    dsimp only [V, hostOps0]
    after_results
    rfl
  show V m c main_v1 _ = _
  rw [hV, show (((cfg0.win 0).blk t0_0).view.emb (ix2 0 k) : S1x2048.Idx) = ix2 0 k from funext fun a => Fin.ext (by
    fin_cases a
    · rfl
    · show 0 + 1 * k.val = k.val; omega)]
  pointwise []

theorem zv_apply (A : Args Ideal) (c : Dev nD) (i : Fin 8) (x : Fin 64) (k : Fin 2048) :
    (zv A c i (ix3 0 x k) : EReal) = A.P c (ix3 0 (row c i x) k) := by
  rw [← pqv_apply]
  unfold zv
  pointwise [k0_pay1]

/-- A finished chunk is the reference's rows: the device and its `z` neighbour hold the two partials, in either order. -/
theorem ov_apply (A : Args Ideal) (P : FVec Ideal Cert.ReferenceIdeal.S2x2048x2048 .f32) (R : FVec Ideal Cert.ReferenceIdeal.S2048x2048 .f32)
    (G : FVec Ideal Cert.ReferenceIdeal.S2048 .f32) (hP : ∀ c a k, A.P c (ix3 0 a k) = P (ix3 (zd c) a k)) (hR : ∀ c, A.R c = R)
    (hG : ∀ c k, A.G c (ix2 0 k) = G (ix1 k)) (c : Dev nD) (i : Fin 8) (x : Fin 64) (l : Fin 2048) :
    (ov A c i (ix2 x l) : EReal) = ref P R G (ix2 (row c i x) l) := by
  have hz : ∀ a k, (P (ix3 (zd c) a k) + P (ix3 (zd (zP c)) a k) : EReal) = P (ix3 0 a k) + P (ix3 1 a k) := by
    intro a k
    rw [zd_zP]
    generalize zd c = z
    fin_cases z
    · rfl
    · exact add_comm _ _
  rw [ref_apply]
  unfold ov
  rw [pay12_apply]
  have e : ∀ k, (pqv A c i (ix2 x k) + zv A (zP c) i (ix3 0 x k) + rqv A c i (ix2 x k) : EReal)
      = P (ix3 0 (row c i x) k) + P (ix3 1 (row c i x) k) + R (ix2 (row c i x) k) := fun k => by
    rw [pqv_apply, zv_apply, rqv_apply, row_zP, hP, hP, hR, hz]
  have g : ∀ k, (gv A c (ix2 0 k) : EReal) = G (ix1 k) := fun k => by rw [gv_apply, hG]
  exact congrArg₂ (fun y g => nrow y g l) (funext e) (funext g)

/-- Every device ends with the reference's result. -/
theorem outV_eq (A : Args Ideal) (P : FVec Ideal Cert.ReferenceIdeal.S2x2048x2048 .f32) (R : FVec Ideal Cert.ReferenceIdeal.S2048x2048 .f32)
    (G : FVec Ideal Cert.ReferenceIdeal.S2048 .f32) (hP : ∀ c a k, A.P c (ix3 0 a k) = P (ix3 (zd c) a k)) (hR : ∀ c, A.R c = R)
    (hG : ∀ c k, A.G c (ix2 0 k) = G (ix1 k)) (c : Dev nD) : outV A c = ref P R G := by
  funext j
  obtain ⟨a, l, rfl⟩ : ∃ a l : Fin 2048, j = ix2 a l := ⟨j 0, j 1, eq_ix2 j⟩
  have e : ∀ x : Fin 64, (Fin.cons x (Fin.cons l fun a => a.elim0) : S64x2048.Idx) = ix2 x l := fun x => funext fun b => by
    fin_cases b <;> rfl
  unfold outV
  refine (congrArg (ov A _ _) (e ⟨a.val % 64, Nat.mod_lt _ (by decide)⟩)).trans ((ov_apply A P R G hP hR hG _ _ _ _).trans ?_)
  refine congrArg (fun a => ref P R G (ix2 a l)) (Fin.ext ?_)
  have h := congrArg Fin.val (qd_owner c ⟨a.val / 512, by omega⟩ ⟨a.val / 32 % 2, by omega⟩)
  show 512 * (qd (owner c ⟨a.val / 512, by omega⟩ ⟨a.val / 32 % 2, by omega⟩)).val + 64 * (a.val % 512 / 64) + a.val % 64 = a.val
  rw [h]
  show 512 * (a.val / 512) + 64 * (a.val % 512 / 64) + a.val % 64 = a.val
  omega

/-- The partial a device holds is the one its `z` coordinate names. -/
theorem block_apply (P : FVec Ideal Cert.ReferenceIdeal.S2x2048x2048 .f32) (c : Dev nD) (a k : Fin 2048) :
    (Layout.blockN ⟨3, ![1, 2048, 2048]⟩ ⟨3, ![2, 2048, 2048]⟩ (Layout.meshBlock [2, 2, 2] ![[2], [], []] c) P : S1x2048x2048.Idx → EReal) (ix3 0 a k)
      = P (ix3 (zd c) a k) := by
  shard_norm
  refine congrArg P (funext fun b => Fin.ext ?_)
  have h0 : ∀ c : Dev nD, Layout.meshLin [2, 2, 2] c.val [2] * 1 + 0 = (zd c).val := by decide +kernel
  have h1 : ∀ (c : Dev nD), Layout.meshLin [2, 2, 2] c.val [] = 0 := by decide +kernel
  fin_cases b <;> shard_norm
  · exact h0 c
  · show Layout.meshLin [2, 2, 2] c.val [] * 2048 + a.val = a.val
    rw [h1, Nat.zero_mul, Nat.zero_add]
  · show Layout.meshLin [2, 2, 2] c.val [] * 2048 + k.val = k.val
    rw [h1, Nat.zero_mul, Nat.zero_add]

end Kernel

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

section
variable {F : FTy → Type} [FloatOps F]

/-- The kernel and its idealization are one text: the same bodies, -/
theorem bodies_eq : Cert.Kernel.defs₀ (F := F) = Cert.KernelIdeal.defs₀ (F := F) :=
  congrArg (Defs.onTc (nD := Cert.KernelIdeal.nD) (τ := Cert.KernelIdeal.τ) (sig := Cert.KernelIdeal.sig) (Val := Elt F)
    (Λ := Cert.KernelIdeal.Λ₀)) (funext fun l => funext fun x => by
      match l, x with
      | 0, (t, s) => rfl)

/-- so the same table. -/
theorem defs_eq : Cert.Kernel.defs (F := F) = Cert.KernelIdeal.defs (F := F) :=
  congrArg (Pipeline.defs (Cert.KernelIdeal.pcfgs (F := F))) bodies_eq

open Cert.KernelIdeal in
/-- The run with the values dropped. -/
theorem frame (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run _ _ _).mono (fun _ h => ⟨fun c => (h.1 c).1, h.2⟩) (Gen.run_main m ρ)

end

theorem frame_kernel : Cert.quiescent_Kernel := fun m ρ _ => by
  have h := frame (F := Bits) m ρ
  rw [← defs_eq] at h
  exact h

theorem frame_ideal : Cert.quiescent_KernelIdeal := fun m ρ _ => frame (F := Ideal) m ρ

/-- The reference has no semaphore. -/
theorem frame_reference : Cert.quiescent_ReferenceIdeal := fun m ρ _ =>
  (θ_run Cert.ReferenceIdeal.defs _ _).mono (fun r h => ⟨fun c => (h c).2, sem_eq_zero_of_no_sems (by decide) _⟩)
    (Cert.ReferenceIdeal.Value.run (F := Ideal) m ρ)

theorem algebraic : Cert.algebraic_KernelIdeal_ReferenceIdeal := fun m ρ m' ρ' _ h =>
  ⟨_, (θ_run Cert.KernelIdeal.defs _ _).mono (fun _ r c => ⟨((r.1 c).2).trans
        (Cert.Value.outV_eq (Cert.KernelIdeal.Gen.argsOf m) _ _ _
          (fun c a k => (congrFun (h c).1 _).trans (Cert.Value.block_apply _ c a k))
          (fun c => (h c).2.1)
          (fun c k => (Cert.Value.gamma_apply m c k).trans (congrFun (h c).2.2 _)) c),
        (r.1 c).1⟩) (Cert.KernelIdeal.Gen.run_main (F := Ideal) m ρ),
    (θ_run Cert.ReferenceIdeal.defs _ _).mono (fun _ r => r 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
